-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x8192x3 : Shape := ⟨3, ![8, 8192, 3]⟩
abbrev S8x8192x1 : Shape := ⟨3, ![8, 8192, 1]⟩
abbrev S8x8192 : Shape := ⟨2, ![8, 8192]⟩
abbrev S_ : Shape := ⟨0, ![]⟩

class Facts : Prop where
  slices_S8x8192x3_S8x8192x1_0_0_0 : S8x8192x3.Slices ![0, 0, 0] S8x8192x1
  shapeCasts_S8x8192x1_S8x8192 : S8x8192x1.ShapeCasts S8x8192
  slices_S8x8192x3_S8x8192x1_0_0_1 : S8x8192x3.Slices ![0, 0, 1] S8x8192x1
  slices_S8x8192x3_S8x8192x1_0_0_2 : S8x8192x3.Slices ![0, 0, 2] S8x8192x1
  bcast_S_S8x8192 : S_.BroadcastsInDim S8x8192 (![] : Fin 0 → Fin S8x8192.rank)
  reducesTo_S8x8192_S_d0_1 : S8x8192.ReducesTo [0, 1] S_
  h_S_ : 0 < S_.numel

variable [Facts]

def fn_part1 {F : FTy → Type} [FloatOps F] (main_v19 : IVec S8x8192 1) (main_c : IVec S_ 1) : IVec S_ 1 :=
  let main_v20 : IVec S_ 1 := (fun x v => Host.reduce IntOp.andi x v reducesTo_S8x8192_S_d0_1 h_S_) main_v19 main_c
  main_v20

def fn {F : FTy → Type} [FloatOps F] (main_arg0 : FVec F S8x8192x3 .f32) : IVec S_ 1 :=
  let main_v0 : FVec F S8x8192x1 .f32 := (extractStridedSlice S8x8192x1 ![0, 0, 0] · slices_S8x8192x3_S8x8192x1_0_0_0) main_arg0
  let main_v1 : FVec F S8x8192 .f32 := shapeCast S8x8192 main_v0 shapeCasts_S8x8192x1_S8x8192
  let main_v2 : FVec F S8x8192x1 .f32 := (extractStridedSlice S8x8192x1 ![0, 0, 1] · slices_S8x8192x3_S8x8192x1_0_0_1) main_arg0
  let main_v3 : FVec F S8x8192 .f32 := shapeCast S8x8192 main_v2 shapeCasts_S8x8192x1_S8x8192
  let main_v4 : FVec F S8x8192x1 .f32 := (extractStridedSlice S8x8192x1 ![0, 0, 2] · slices_S8x8192x3_S8x8192x1_0_0_2) main_arg0
  let main_v5 : FVec F S8x8192 .f32 := shapeCast S8x8192 main_v4 shapeCasts_S8x8192x1_S8x8192
  let main_v6 : FVec F S8x8192 .f32 := mulf main_v1 main_v1
  let main_v7 : FVec F S8x8192 .f32 := mulf main_v3 main_v3
  let main_v8 : FVec F S8x8192 .f32 := addf main_v6 main_v7
  let main_v9 : FVec F S8x8192 .f32 := mulf main_v5 main_v5
  let main_v10 : FVec F S8x8192 .f32 := addf main_v8 main_v9
  let main_v11 : FVec F S8x8192 .f32 := Host.sqrt main_v10
  let main_cst : FVec F S_ .f32 := constant S_ .f32 0x42C80000#32
  let main_v12 : FVec F S8x8192 .f32 := broadcastInDim S8x8192 ![] bcast_S_S8x8192 main_cst
  let main_v13 : IVec S8x8192 1 := cmpf .olt main_v11 main_v12
  let main_cst_0 : FVec F S_ .f32 := constant S_ .f32 0x00000000#32
  let main_v14 : FVec F S8x8192 .f32 := broadcastInDim S8x8192 ![] bcast_S_S8x8192 main_cst_0
  let main_v15 : IVec S8x8192 1 := cmpf .oeq main_v11 main_v14
  let main_cst_1 : FVec F S_ .f32 := constant S_ .f32 0x2B8CBCCC#32
  let main_v16 : FVec F S8x8192 .f32 := broadcastInDim S8x8192 ![] bcast_S_S8x8192 main_cst_1
  let main_v17 : IVec S8x8192 1 := cmpf .oge main_v11 main_v16
  let main_v18 : IVec S8x8192 1 := ori main_v15 main_v17
  let main_v19 : IVec S8x8192 1 := andi main_v13 main_v18
  let main_c : IVec S_ 1 := constantI S_ 1 1#1
  fn_part1 (F := F) main_v19 main_c
-- ==== Kernel.lean ====
abbrev S8x8192x3 : Shape := ⟨3, ![8, 8192, 3]⟩
abbrev S196608 : Shape := ⟨1, ![196608]⟩
abbrev S8x8x16 : Shape := ⟨3, ![8, 8, 16]⟩
abbrev S6144 : Shape := ⟨1, ![6144]⟩
abbrev S2064 : Shape := ⟨1, ![2064]⟩
abbrev S8x16 : Shape := ⟨2, ![8, 16]⟩
abbrev S4x8x16 : Shape := ⟨3, ![4, 8, 16]⟩
abbrev S32x8x16 : Shape := ⟨3, ![32, 8, 16]⟩
abbrev S_ : Shape := ⟨0, ![]⟩
abbrev S16 : Shape := ⟨1, ![16]⟩
abbrev S1x16 : Shape := ⟨2, ![1, 16]⟩
abbrev S1x8x16 : Shape := ⟨3, ![1, 8, 16]⟩
abbrev S1x1x16 : Shape := ⟨3, ![1, 1, 16]⟩
abbrev S8x1x4x8x4 : Shape := ⟨5, ![8, 1, 4, 8, 4]⟩

abbrev nBuf : Table → Nat
  | .hbm => 4
  | .shared => 1
  | .local .scVector .vmem => 4
  | _ => 0

abbrev bufTy : (tb : Table) → Fin (nBuf tb) → BufTy
  | .hbm, ⟨0, _⟩ => ⟨S8x8192x3, .f32⟩
  | .hbm, ⟨1, _⟩ => ⟨S196608, .f32⟩
  | .hbm, ⟨2, _⟩ => ⟨S8x8x16, .f32⟩
  | .hbm, ⟨3, _⟩ => ⟨S8x1x4x8x4, .f32⟩
  | .shared, ⟨0, _⟩ => ⟨S32x8x16, .f32⟩
  | .local .scVector .vmem, ⟨0, _⟩ => ⟨S6144, .f32⟩
  | .local .scVector .vmem, ⟨1, _⟩ => ⟨S2064, .f32⟩
  | .local .scVector .vmem, ⟨2, _⟩ => ⟨S8x16, .f32⟩
  | .local .scVector .vmem, ⟨3, _⟩ => ⟨S4x8x16, .f32⟩
  | _, _ => ⟨S8x8192x3, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 5 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch4 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c6144_i32 : BitVec 32 := 6144#32
  let v2 : BitVec 32 := Scalar.muli v1 c6144_i32
  ![v2.toNat]
@[reducible] def k0_t1_loop : Scf.Loop 32 :=
  let c0_i32_1 : BitVec 32 := 0#32
  let c128_i32 : BitVec 32 := 128#32
  let v6 : BitVec 32 := Scalar.addi c0_i32_1 c128_i32
  let c1_i32 : BitVec 32 := 1#32
  ⟨c0_i32_1, v6, c1_i32⟩
def k0_off2 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c16_i32_23 : BitVec 32 := 16#32
  let v279 : BitVec 32 := Scalar.muli arg9 c16_i32_23
  let v280 : Index := Scalar.indexCast v279
  ![v280.toNat]
@[reducible] def k0_t2_loop : Scf.Loop 32 :=
  let c0_i32_5 : BitVec 32 := 0#32
  let c128_i32_6 : BitVec 32 := 128#32
  let v11 : BitVec 32 := Scalar.addi c0_i32_5 c128_i32_6
  let c1_i32_7 : BitVec 32 := 1#32
  ⟨c0_i32_5, v11, c1_i32_7⟩

def k0_chk1 (v281 : IVec S16 32) : Prop :=
  (∀ a x, ((![v281] : Fin 1 → IVec S16 32) a x).toNat < S6144.size a)
theorem k0_idx1_inb : ∀ (v281 : IVec S16 32) (k0_hw1 : k0_chk1 v281), ∀ a x, ((![v281] : Fin 1 → IVec S16 32) a x).toNat < S6144.size a := fun v281 k0_hw1 => k0_hw1

def k0_chk2 (v284 : IVec S16 32) : Prop :=
  (∀ a x, ((![v284] : Fin 1 → IVec S16 32) a x).toNat < S6144.size a)
theorem k0_idx2_inb : ∀ (v284 : IVec S16 32) (k0_hw2 : k0_chk2 v284), ∀ a x, ((![v284] : Fin 1 → IVec S16 32) a x).toNat < S6144.size a := fun v284 k0_hw2 => k0_hw2

def k0_chk3 (v287 : IVec S16 32) : Prop :=
  (∀ a x, ((![v287] : Fin 1 → IVec S16 32) a x).toNat < S6144.size a)
theorem k0_idx3_inb : ∀ (v287 : IVec S16 32) (k0_hw3 : k0_chk3 v287), ∀ a x, ((![v287] : Fin 1 → IVec S16 32) a x).toNat < S6144.size a := fun v287 k0_hw3 => k0_hw3

def k0_chk4 (v384 : IVec S16 32) : Prop :=
  (∀ a x, ((![v384] : Fin 1 → IVec S16 32) a x).toNat < S2064.size a)
theorem k0_idx4_inb : ∀ (v384 : IVec S16 32) (k0_hw4 : k0_chk4 v384), ∀ a x, ((![v384] : Fin 1 → IVec S16 32) a x).toNat < S2064.size a := fun v384 k0_hw4 => k0_hw4
def k0_off3 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_23_r1 : BitVec 32 := 0#32
  let c0_i32_24_r1 : BitVec 32 := 0#32
  ![v1.toNat, 0, 0]
def k0_cond1 (i : grid0.Coords) : BitVec 1 :=
  let arg1 : BitVec 32 := BitVec.ofNat 32 (i 1).val
  let c4_i32_21 : BitVec 32 := 4#32
  let v276 : BitVec 1 := Scalar.cmpi .slt arg1 c4_i32_21
  let v277 : BitVec 32 := Scalar.extui v276
  let c0_i32_22 : BitVec 32 := 0#32
  let v278 : BitVec 1 := Scalar.cmpi .ne v277 c0_i32_22
  v278

def k0_off4 (i : grid0.Coords) : Fin 3 → Nat :=
  let arg0 : BitVec 32 := BitVec.ofNat 32 (i 0).val
  let c16_i32_23 : BitVec 32 := 16#32
  let v279 : BitVec 32 := Scalar.muli arg0 c16_i32_23
  let arg1 : BitVec 32 := BitVec.ofNat 32 (i 1).val
  let c4_i32_24 : BitVec 32 := 4#32
  let v280 : BitVec 32 := Scalar.muli arg1 c4_i32_24
  let v281 : BitVec 32 := Scalar.addi v279 v280
  let c0_i32_138_r2 : BitVec 32 := 0#32
  let c0_i32_139_r2 : BitVec 32 := 0#32
  ![v281.toNat, 0, 0]
def k0_off5 (i : grid0.Coords) : Fin 3 → Nat :=
  let arg0 : BitVec 32 := BitVec.ofNat 32 (i 0).val
  let c4_i32_137 : BitVec 32 := 4#32
  let v418 : BitVec 32 := Scalar.muli arg0 c4_i32_137
  let arg1 : BitVec 32 := BitVec.ofNat 32 (i 1).val
  let v419 : BitVec 32 := Scalar.addi v418 arg1
  let c0_i32_138_r3 : BitVec 32 := 0#32
  let c0_i32_139_r3 : BitVec 32 := 0#32
  ![v419.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8192x3 : Shape := ⟨3, ![8, 8192, 3]⟩
abbrev S_ : Shape := ⟨0, ![]⟩
abbrev S8x8192x1 : Shape := ⟨3, ![8, 8192, 1]⟩
abbrev S8x8192 : Shape := ⟨2, ![8, 8192]⟩
abbrev S4 : Shape := ⟨1, ![4]⟩
abbrev S4x1x1 : Shape := ⟨3, ![4, 1, 1]⟩
abbrev S8 : Shape := ⟨1, ![8]⟩
abbrev S1x8x1 : Shape := ⟨3, ![1, 8, 1]⟩
abbrev S1x1x4 : Shape := ⟨3, ![1, 1, 4]⟩
abbrev S4x8x1 : Shape := ⟨3, ![4, 8, 1]⟩
abbrev S4x8x4 : Shape := ⟨3, ![4, 8, 4]⟩
abbrev S8x8192x1x1x1 : Shape := ⟨5, ![8, 8192, 1, 1, 1]⟩
abbrev S1x1x4x8x4 : Shape := ⟨5, ![1, 1, 4, 8, 4]⟩
abbrev S8x8192x4x8x4 : Shape := ⟨5, ![8, 8192, 4, 8, 4]⟩
abbrev S8x4x8x4 : Shape := ⟨4, ![8, 4, 8, 4]⟩
abbrev S8x1x4x8x4 : Shape := ⟨5, ![8, 1, 4, 8, 4]⟩

abbrev nBuf : Space → Nat
  | .hbm => 94
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S_, .f32⟩
  | .hbm, ⟨2, _⟩ => ⟨S_, .f32⟩
  | .hbm, ⟨3, _⟩ => ⟨S8x8192x1, .f32⟩
  | .hbm, ⟨4, _⟩ => ⟨S8x8192, .f32⟩
  | .hbm, ⟨5, _⟩ => ⟨S8x8192x1, .f32⟩
  | .hbm, ⟨6, _⟩ => ⟨S8x8192, .f32⟩
  | .hbm, ⟨7, _⟩ => ⟨S8x8192x1, .f32⟩
  | .hbm, ⟨8, _⟩ => ⟨S8x8192, .f32⟩
  | .hbm, ⟨9, _⟩ => ⟨S8x8192, .f32⟩
  | .hbm, ⟨10, _⟩ => ⟨S8x8192, .f32⟩
  | .hbm, ⟨11, _⟩ => ⟨S8x8192, .f32⟩
  | .hbm, ⟨12, _⟩ => ⟨S8x8192, .f32⟩
  | .hbm, ⟨13, _⟩ => ⟨S8x8192, .f32⟩
  | .hbm, ⟨14, _⟩ => ⟨S8x8192, .f32⟩
  | .hbm, ⟨15, _⟩ => ⟨S8x8192, .f32⟩
  | .hbm, ⟨16, _⟩ => ⟨S_, .f32⟩
  | .hbm, ⟨17, _⟩ => ⟨S8x8192, .f32⟩
  | .hbm, ⟨18, _⟩ => ⟨S8x8192, .i1⟩
  | .hbm, ⟨19, _⟩ => ⟨S_, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S8x8192, .f32⟩
  | .hbm, ⟨24, _⟩ => ⟨S_, .f32⟩
  | .hbm, ⟨25, _⟩ => ⟨S8x8192, .f32⟩
  | .hbm, ⟨26, _⟩ => ⟨S8x8192, .f32⟩
  | .hbm, ⟨27, _⟩ => ⟨S8x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S8x8192, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S8x8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x8192, .f32⟩
  | .hbm, ⟨49, _⟩ => ⟨S8x8192, .f32⟩
  | .hbm, ⟨50, _⟩ => ⟨S8x8192, .f32⟩
  | .hbm, ⟨51, _⟩ => ⟨S_, .f32⟩
  | .hbm, ⟨52, _⟩ => ⟨S8x8192, .f32⟩
  | .hbm, ⟨53, _⟩ => ⟨S8x8192, .f32⟩
  | .hbm, ⟨54, _⟩ => ⟨S8x8192, .f32⟩
  | .hbm, ⟨55, _⟩ => ⟨S_, .f32⟩
  | .hbm, ⟨56, _⟩ => ⟨S_, .f32⟩
  | .hbm, ⟨57, _⟩ => ⟨S8x8192, .f32⟩
  | .hbm, ⟨58, _⟩ => ⟨S8x8192, .f32⟩
  | .hbm, ⟨59, _⟩ => ⟨S8x8192, .f32⟩
  | .hbm, ⟨60, _⟩ => ⟨S_, .f32⟩
  | .hbm, ⟨61, _⟩ => ⟨S8x8192, .f32⟩
  | .hbm, ⟨62, _⟩ => ⟨S8x8192, .f32⟩
  | .hbm, ⟨63, _⟩ => ⟨S8x8192, .f32⟩
  | .hbm, ⟨64, _⟩ => ⟨S4, .f32⟩
  | .hbm, ⟨65, _⟩ => ⟨S4x1x1, .f32⟩
  | .hbm, ⟨66, _⟩ => ⟨S8, .f32⟩
  | .hbm, ⟨67, _⟩ => ⟨S1x8x1, .f32⟩
  | .hbm, ⟨68, _⟩ => ⟨S4, .f32⟩
  | .hbm, ⟨69, _⟩ => ⟨S1x1x4, .f32⟩
  | .hbm, ⟨70, _⟩ => ⟨S_, .f32⟩
  | .hbm, ⟨71, _⟩ => ⟨S4x1x1, .f32⟩
  | .hbm, ⟨72, _⟩ => ⟨S4x1x1, .f32⟩
  | .hbm, ⟨73, _⟩ => ⟨S_, .f32⟩
  | .hbm, ⟨74, _⟩ => ⟨S1x8x1, .f32⟩
  | .hbm, ⟨75, _⟩ => ⟨S1x8x1, .f32⟩
  | .hbm, ⟨76, _⟩ => ⟨S4x8x1, .f32⟩
  | .hbm, ⟨77, _⟩ => ⟨S4x8x1, .f32⟩
  | .hbm, ⟨78, _⟩ => ⟨S4x8x1, .f32⟩
  | .hbm, ⟨79, _⟩ => ⟨S_, .f32⟩
  | .hbm, ⟨80, _⟩ => ⟨S1x1x4, .f32⟩
  | .hbm, ⟨81, _⟩ => ⟨S1x1x4, .f32⟩
  | .hbm, ⟨82, _⟩ => ⟨S4x8x4, .f32⟩
  | .hbm, ⟨83, _⟩ => ⟨S4x8x4, .f32⟩
  | .hbm, ⟨84, _⟩ => ⟨S4x8x4, .f32⟩
  | .hbm, ⟨85, _⟩ => ⟨S8x8192x1x1x1, .f32⟩
  | .hbm, ⟨86, _⟩ => ⟨S1x1x4x8x4, .f32⟩
  | .hbm, ⟨87, _⟩ => ⟨S8x8192x4x8x4, .f32⟩
  | .hbm, ⟨88, _⟩ => ⟨S8x8192x4x8x4, .f32⟩
  | .hbm, ⟨89, _⟩ => ⟨S8x8192x4x8x4, .i1⟩
  | .hbm, ⟨90, _⟩ => ⟨S8x8192x4x8x4, .f32⟩
  | .hbm, ⟨91, _⟩ => ⟨S_, .f32⟩
  | .hbm, ⟨92, _⟩ => ⟨S8x4x8x4, .f32⟩
  | .hbm, ⟨93, _⟩ => ⟨S8x1x4x8x4, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Proof.Hist.lean ====
/-
  What one tile computes, as functions of the 6144 words it reads: the three coordinates a lane
  gathers on a step, the bin it finds for them, the 2064-word histogram after some steps, the sum of
  the sixteen lanes' histograms, and the sum of four tiles' sums. Stated over any float values, so
  that one run of the kernel serves the machine's floats and the exact ones.
-/
module

public import proofs.«01_k».proof.Proof.Gen.KernelIdeal
public import proofs.«01_k».proof.Proof.Gen.KernelIdeal.Skeleton

@[expose] public section

noncomputable section

namespace Cert.Proof.Hist

open Cert.KernelIdeal Cert.KernelIdeal.Gen
open Idealize.ShloMosaic

variable {F : FTy → Type} [FloatOps F]

/-! ## The words the gathers and the scatter name -/

/-- The number of steps of the counting loop. -/
theorem trips2 : k0_t2_loop.trips = 128 := by decide

/-- The number of steps of the clearing loop. -/
theorem trips1 : k0_t1_loop.trips = 128 := by decide

/-- The index vector of a step's `x` coordinates. -/
abbrev ixX (t : Fin k0_t2_loop.trips) : IVec S16 32 := k0_pay2 k0_pay32 0#32 1#32 t

/-- Lane `x` of step `t` reads word `48 t + 3 x`. -/
theorem ixX_toNat (t : Fin k0_t2_loop.trips) (x : S16.Idx) : (ixX t x).toNat = 48 * t.val + 3 * (x 0).val := by
  have ht : t.val < 128 := Nat.lt_of_lt_of_eq t.isLt trips2
  have hx : (x 0).val < 16 := (x 0).isLt
  simp only [k0_pay2, k0_pay32, Scf.iv, addi, muli, broadcast, iota, IntOp.addi, IntOp.muli, Scalar.muli, List.foldl, BitVec.toNat_add,
    BitVec.toNat_mul, BitVec.toNat_ofNat]
  omega

/-- Lane `x` of step `t` reads its `y` coordinate one word further. -/
theorem ixY_toNat (t : Fin k0_t2_loop.trips) (x : S16.Idx) : (k0_pay3 (ixX t) x).toNat = 48 * t.val + 3 * (x 0).val + 1 := by
  have ht : t.val < 128 := Nat.lt_of_lt_of_eq t.isLt trips2
  have hx : (x 0).val < 16 := (x 0).isLt
  have h := ixX_toNat t x
  simp only [k0_pay3, addi, broadcast, IntOp.addi, BitVec.toNat_add, h, BitVec.toNat_ofNat]
  omega

/-- Lane `x` of step `t` reads its `z` coordinate two words further. -/
theorem ixZ_toNat (t : Fin k0_t2_loop.trips) (x : S16.Idx) : (k0_pay4 (ixX t) x).toNat = 48 * t.val + 3 * (x 0).val + 2 := by
  have ht : t.val < 128 := Nat.lt_of_lt_of_eq t.isLt trips2
  have hx : (x 0).val < 16 := (x 0).isLt
  have h := ixX_toNat t x
  simp only [k0_pay4, addi, broadcast, IntOp.addi, BitVec.toNat_add, h, BitVec.toNat_ofNat]
  omega

/-- The first gather's indices lie in the tile's points. -/
theorem chkX (t : Fin k0_t2_loop.trips) : k0_chk1 (ixX t) := by
  intro a x
  have ht : t.val < 128 := Nat.lt_of_lt_of_eq t.isLt trips2
  have hx : (x 0).val < 16 := (x 0).isLt
  have h := ixX_toNat t x
  fin_cases a
  show (ixX t x).toNat < 6144
  omega

/-- The second gather's indices lie in the tile's points. -/
theorem chkY (t : Fin k0_t2_loop.trips) : k0_chk2 (k0_pay3 (ixX t)) := by
  intro a x
  have ht : t.val < 128 := Nat.lt_of_lt_of_eq t.isLt trips2
  have hx : (x 0).val < 16 := (x 0).isLt
  have h := ixY_toNat t x
  fin_cases a
  show (k0_pay3 (ixX t) x).toNat < 6144
  omega

/-- The third gather's indices lie in the tile's points. -/
theorem chkZ (t : Fin k0_t2_loop.trips) : k0_chk3 (k0_pay4 (ixX t)) := by
  intro a x
  have ht : t.val < 128 := Nat.lt_of_lt_of_eq t.isLt trips2
  have hx : (x 0).val < 16 := (x 0).isLt
  have h := ixZ_toNat t x
  fin_cases a
  show (k0_pay4 (ixX t) x).toNat < 6144
  omega

/-- The sixteen points' first coordinates on step `t`. -/
def ldX (f : Vec F S6144 .f32) (t : Fin k0_t2_loop.trips) : Vec F S16 .f32 :=
  loadIdx f ![ixX t] (k0_idx1_inb _ (chkX t))

/-- The sixteen points' second coordinates on step `t`. -/
def ldY (f : Vec F S6144 .f32) (t : Fin k0_t2_loop.trips) : Vec F S16 .f32 :=
  loadIdx f ![k0_pay3 (ixX t)] (k0_idx2_inb _ (chkY t))

/-- The sixteen points' third coordinates on step `t`. -/
def ldZ (f : Vec F S6144 .f32) (t : Fin k0_t2_loop.trips) : Vec F S16 .f32 :=
  loadIdx f ![k0_pay4 (ixX t)] (k0_idx3_inb _ (chkZ t))

/-- The word each lane scatters to, from the sixteen points' coordinates. -/
def binOf (X Y Z : Vec F S16 .f32) : IVec S16 32 :=
  k0_pay33 (k0_pay5 Z) (k0_pay6 X Y Z) (k0_pay7 X Y Z) (k0_pay12 X Y (k0_pay8 Y) (k0_pay9 Y) (k0_pay10 X) (k0_pay11 X))
    (k0_pay13 (k0_pay5 Z)) (k0_pay14 Z) (k0_pay15 Z) (k0_pay16 Z (k0_pay5 Z) (k0_pay6 X Y Z)) 0#32 k0_pay17

/-- One where `c` is set. -/
def one (c : BitVec 1) : Nat := if c = 1 then 1 else 0

theorem one_le (c : BitVec 1) : one c ≤ 1 := by unfold one; split <;> omega

/-- The radius cell of one point, from its squared radius. -/
def radN (s2 : F .f32) : Nat :=
  one (FloatOps.cmpf .oge s2 (FloatOps.ofBits .f32 0x3F800000#32)) + one (FloatOps.cmpf .oge s2 (FloatOps.ofBits .f32 0x40800000#32))
    + one (FloatOps.cmpf .oge s2 (FloatOps.ofBits .f32 0x41100000#32))

theorem radN_le (s2 : F .f32) : radN s2 ≤ 3 := by
  unfold radN
  have a := one_le (FloatOps.cmpf .oge s2 (FloatOps.ofBits .f32 0x3F800000#32))
  have b := one_le (FloatOps.cmpf .oge s2 (FloatOps.ofBits .f32 0x40800000#32))
  have c := one_le (FloatOps.cmpf .oge s2 (FloatOps.ofBits .f32 0x41100000#32))
  omega

/-- The exact zero the comparisons use. -/
abbrev z0 : F .f32 := FloatOps.ofBits .f32 0x00000000#32

/-- The azimuth cell of one point. -/
def aziN (x y : F .f32) : Nat :=
  if FloatOps.cmpf .ogt y z0 = 1 ∧ FloatOps.cmpf .ogt x z0 = 1 then (if FloatOps.cmpf .oge y x = 1 then 1 else 0)
  else if FloatOps.cmpf .ogt y z0 = 1 then (if FloatOps.cmpf .ogt y (FloatOps.subf z0 x) = 1 then 2 else 3)
  else if FloatOps.cmpf .olt y z0 = 1 ∧ FloatOps.cmpf .olt x z0 = 1 then (if FloatOps.cmpf .ogt y x = 1 then 4 else 5)
  else if FloatOps.cmpf .olt y z0 = 1 then (if FloatOps.cmpf .ogt (FloatOps.subf z0 y) x = 1 then 6 else 7)
  else if FloatOps.cmpf .olt x z0 = 1 then 4 else 0

theorem aziN_le (x y : F .f32) : aziN x y ≤ 7 := by
  unfold aziN
  split_ifs <;> omega

/-- Twice the squared height. -/
abbrev t2 (z2 : F .f32) : F .f32 := FloatOps.mulf (FloatOps.ofBits .f32 0x40000000#32) z2

/-- The elevation cell of one point, from its height, squared height and squared radius. -/
def eleN (z z2 s2 : F .f32) : Nat :=
  (if FloatOps.cmpf .ole z z0 = 1 ∨ FloatOps.cmpf .ole (t2 z2) s2 = 1 then 1 else 0) + (if FloatOps.cmpf .ole z z0 = 1 then 1 else 0)
    + (if FloatOps.cmpf .olt z z0 = 1 ∧ FloatOps.cmpf .oge (t2 z2) s2 = 1 then 1 else 0)

theorem eleN_le (z z2 s2 : F .f32) : eleN z z2 s2 ≤ 3 := by
  unfold eleN
  split_ifs <;> omega

/-- The points that are counted: those of squared radius below sixteen that do not lie straight down. -/
def okB (z z2 s2 : F .f32) : Prop :=
  FloatOps.cmpf .olt s2 (FloatOps.ofBits .f32 0x41800000#32) = 1 ∧ ¬ (FloatOps.cmpf .olt z z0 = 1 ∧ FloatOps.cmpf .oge z2 s2 = 1)

instance (z z2 s2 : F .f32) : Decidable (okB z z2 s2) := by unfold okB; infer_instance

/-- The squared radius of one point, in the kernel's order. -/
abbrev sq (x y z : F .f32) : F .f32 := FloatOps.addf (FloatOps.addf (FloatOps.mulf x x) (FloatOps.mulf y y)) (FloatOps.mulf z z)

/-- The cell of one point: its radius, azimuth and elevation cells, radius outermost. -/
def cellN (x y z : F .f32) : Nat := 32 * radN (sq x y z) + 4 * aziN x y + eleN z (FloatOps.mulf z z) (sq x y z)

theorem cellN_lt (x y z : F .f32) : cellN x y z < 128 := by
  unfold cellN
  have a := radN_le (sq x y z)
  have b := aziN_le x y
  have c := eleN_le z (FloatOps.mulf z z) (sq x y z)
  omega

theorem and1 (a b : BitVec 1) : a &&& b = 1 ↔ a = 1 ∧ b = 1 := by revert a b; decide
theorem or1 (a b : BitVec 1) : a ||| b = 1 ↔ a = 1 ∨ b = 1 := by revert a b; decide
theorem xor1 (a : BitVec 1) : a ^^^ 1#1 = 1 ↔ ¬ a = 1 := by revert a; decide

/-- A chosen word's value is the chosen value. -/
theorem toNat_ite (c : Prop) [Decidable c] (a b : BitVec 32) : (if c then a else b).toNat = if c then a.toNat else b.toNat := by split <;> rfl

/-- A vector choice's word, read at one lane. -/
theorem select_toNat (c : IVec S16 1) (a b : IVec S16 32) (x : S16.Idx) :
    (select c a b x).toNat = if c x = 1 then (a x).toNat else (b x).toNat := by unfold select Scalar.select; split <;> rfl

/-- A vector sum's word, read at one lane. -/
theorem addi_toNat (a b : IVec S16 32) (x : S16.Idx) : (addi a b x).toNat = ((a x).toNat + (b x).toNat) % 4294967296 := by
  show (a x + b x).toNat = _
  rw [BitVec.toNat_add]

/-- A vector product's word, read at one lane. -/
theorem muli_toNat (a b : IVec S16 32) (x : S16.Idx) : (muli a b x).toNat = ((a x).toNat * (b x).toNat) % 4294967296 := by
  show (a x * b x).toNat = _
  rw [BitVec.toNat_mul]

/-- A broadcast word, read at one lane. -/
theorem broadcast_toNat (n : Nat) (x : S16.Idx) : (broadcast S16 (BitVec.ofNat 32 n) x).toNat = n % 4294967296 := BitVec.toNat_ofNat _ _

/-- The lane's number. -/
theorem iota_toNat (x : S16.Idx) : (iota .scVector S16 32 [0] iota_S16_d0_w32_scVector x).toNat = (x 0).val := by
  have hx : (x 0).val < 16 := (x 0).isLt
  have hz : 0 * S16.size 0 = 0 := Nat.zero_mul _
  simp only [iota, List.foldl, hz, BitVec.toNat_ofNat]
  omega

theorem andi_eq (a b : IVec S16 1) (x : S16.Idx) : andi a b x = 1 ↔ a x = 1 ∧ b x = 1 := and1 _ _
theorem ori_eq (a b : IVec S16 1) (x : S16.Idx) : ori a b x = 1 ↔ a x = 1 ∨ b x = 1 := or1 _ _
theorem xori_eq (a : IVec S16 1) (x : S16.Idx) : xori a (constantI S16 1 1#1) x = 1 ↔ ¬ a x = 1 := xor1 _

/-- Three bits' sum as words is their sum. -/
theorem add3 (p q r : Prop) [Decidable p] [Decidable q] [Decidable r] :
    (((if p then 1 % 4294967296 else 0 % 4294967296) + (if q then 1 % 4294967296 else 0 % 4294967296)) % 4294967296
      + (if r then 1 % 4294967296 else 0 % 4294967296)) % 4294967296 = (if p then 1 else 0) + (if q then 1 else 0) + (if r then 1 else 0) := by
  split_ifs <;> rfl

theorem pay7_toNat (X Y Z : Vec F S16 .f32) (x : S16.Idx) : (k0_pay7 X Y Z x).toNat = radN (sq (X x) (Y x) (Z x)) := by
  simp only [k0_pay7, addi_toNat, select_toNat, broadcast_toNat]
  exact add3 _ _ _

theorem pay12_toNat (X Y : Vec F S16 .f32) (x : S16.Idx) :
    (k0_pay12 X Y (k0_pay8 Y) (k0_pay9 Y) (k0_pay10 X) (k0_pay11 X) x).toNat = aziN (X x) (Y x) := by
  simp only [k0_pay12, k0_pay8, k0_pay9, k0_pay10, k0_pay11, select_toNat, broadcast_toNat, andi_eq]
  rfl

/-- The elevation cells of sixteen points, as the kernel adds them up. -/
def eleW (X Y Z : Vec F S16 .f32) : IVec S16 32 :=
  addi (addi (k0_pay16 Z (k0_pay5 Z) (k0_pay6 X Y Z)) (select (k0_pay14 Z) k0_pay17 (broadcast S16 0#32)))
    (select (andi (k0_pay15 Z) (cmpf .oge (k0_pay13 (k0_pay5 Z)) (k0_pay6 X Y Z))) (broadcast S16 1#32) (broadcast S16 0#32))

theorem eleW_toNat (X Y Z : Vec F S16 .f32) (x : S16.Idx) : (eleW X Y Z x).toNat = eleN (Z x) (FloatOps.mulf (Z x) (Z x)) (sq (X x) (Y x) (Z x)) := by
  simp only [eleW, k0_pay16, k0_pay17, addi_toNat, select_toNat, broadcast_toNat, andi_eq, ori_eq]
  exact add3 _ _ _

/-- The cell's word is the cell: no sum wraps. -/
theorem cell_arith {l' l r' r a' a e' e : Nat} (hl : l' = l) (hr : r' = r) (ha : a' = a) (he : e' = e) (hl16 : l < 16) (hr3 : r ≤ 3) (ha7 : a ≤ 7) (he3 : e ≤ 3) :
    (l' * (128 % 4294967296) % 4294967296 + ((r' * (32 % 4294967296) % 4294967296 + a' * (4 % 4294967296) % 4294967296) % 4294967296 + e') % 4294967296)
      % 4294967296 = 128 * l + (32 * r + 4 * a + e) := by
  subst hl hr ha he
  omega

theorem binOf_toNat (X Y Z : Vec F S16 .f32) (x : S16.Idx) :
    (binOf X Y Z x).toNat = if okB (Z x) (FloatOps.mulf (Z x) (Z x)) (sq (X x) (Y x) (Z x)) then 128 * (x 0).val + cellN (X x) (Y x) (Z x)
      else 2048 + (x 0).val := by
  have hx : (x 0).val < 16 := (x 0).isLt
  have hb : binOf X Y Z = select (andi (cmpf .olt (k0_pay6 X Y Z) (broadcast S16 (Scalar.ofBits .f32 0x41800000#32)))
      (xori (andi (k0_pay15 Z) (cmpf .oge (k0_pay5 Z) (k0_pay6 X Y Z))) (constantI S16 1 1#1)))
      (addi (muli (iota .scVector S16 32 [0] iota_S16_d0_w32_scVector) (broadcast S16 128#32))
        (addi (addi (muli (k0_pay7 X Y Z) (broadcast S16 32#32))
          (muli (k0_pay12 X Y (k0_pay8 Y) (k0_pay9 Y) (k0_pay10 X) (k0_pay11 X)) (broadcast S16 4#32))) (eleW X Y Z)))
      (addi (broadcast S16 2048#32) (iota .scVector S16 32 [0] iota_S16_d0_w32_scVector)) := rfl
  rw [hb]
  simp only [select_toNat, andi_eq, xori_eq]
  refine if_congr Iff.rfl ?_ ?_
  · rw [addi_toNat, addi_toNat, addi_toNat, muli_toNat, muli_toNat, muli_toNat, broadcast_toNat, broadcast_toNat, broadcast_toNat]
    exact cell_arith (iota_toNat x) (pay7_toNat X Y Z x) (pay12_toNat X Y x) (eleW_toNat X Y Z x) hx (radN_le _) (aziN_le _ _) (eleN_le _ _ _)
  · rw [addi_toNat, broadcast_toNat, iota_toNat]
    omega

/-- Every scatter of the counting loop stays inside the histogram. -/
theorem chkB (X Y Z : Vec F S16 .f32) : k0_chk4 (binOf X Y Z) := by
  intro a x
  have hx : (x 0).val < 16 := (x 0).isLt
  have h := binOf_toNat X Y Z x
  have hc := cellN_lt (X x) (Y x) (Z x)
  fin_cases a
  show (binOf X Y Z x).toNat < 2064
  rw [h]
  split <;> omega

/-! ## The histogram -/

/-- One step's scatter: one more in each lane's cell. -/
def hstep (f : Vec F S6144 .f32) (h : Vec F S2064 .f32) (t : Fin k0_t2_loop.trips) : Vec F S2064 .f32 :=
  storeIdx h ![binOf (ldX f t) (ldY f t) (ldZ f t)] k0_pay31 (fun _ => 1#1) true (k0_idx4_inb _ (chkB _ _ _))

/-- The histogram after the first `n` steps, over `h0`. -/
def histAt (f : Vec F S6144 .f32) (h0 : Vec F S2064 .f32) : Nat → Vec F S2064 .f32
  | 0 => h0
  | n + 1 => if h : n < k0_t2_loop.trips then hstep f (histAt f h0 n) ⟨n, h⟩ else histAt f h0 n

theorem histAt_succ (f : Vec F S6144 .f32) (h0 : Vec F S2064 .f32) (t : Fin k0_t2_loop.trips) :
    histAt f h0 (t.val + 1) = hstep f (histAt f h0 t.val) t := by
  show (if h : t.val < k0_t2_loop.trips then hstep f (histAt f h0 t.val) ⟨t.val, h⟩ else _) = _
  rw [dif_pos t.isLt]

/-- A scatter's value at one word depends on the old value at that word alone. -/
theorem storeIdx_congr {d : Fin 1 → Nat} (h h' : Vec F S2064 .f32) (idxs : Fin S2064.rank → IVec ⟨1, d⟩ 32) (v : Vec F ⟨1, d⟩ .f32) (mask : IVec ⟨1, d⟩ 1)
    (add : Bool) (hi : ∀ a x, (idxs a x).toNat < S2064.size a) (j : S2064.Idx) (hj : h j = h' j) :
    storeIdx h idxs v mask add hi j = storeIdx h' idxs v mask add hi j := by
  unfold storeIdx
  generalize List.finRange (d 0) = l
  induction l generalizing h h' with
  | nil => exact hj
  | cons k l ih =>
    simp only [List.foldl_cons]
    apply ih
    split
    · by_cases hjk : ∀ a, (j a).val = (idxAt idxs hi (Shape.ofLane k) a).val
      · have e : j = idxAt idxs hi (Shape.ofLane k) := funext fun a => Fin.ext (hjk a)
        simp only [← e, hj]
      · simp only [if_neg hjk, hj]
    · exact hj

theorem histAt_congr (f : Vec F S6144 .f32) (h h' : Vec F S2064 .f32) (j : S2064.Idx) (hj : h j = h' j) (n : Nat) :
    histAt f h n j = histAt f h' n j := by
  induction n with
  | zero => exact hj
  | succ n ih =>
    simp only [histAt]
    split
    · exact storeIdx_congr _ _ _ _ _ _ _ j ih
    · exact ih

end Cert.Proof.Hist
-- ==== Proof.Vals.lean ====
/-
  What the kernel's arrays hold, as functions of the 196608 words of the points: tile `w`'s words, its
  histogram, its sum over the sixteen lanes, and a cloud's counts, the sum of its four tiles' sums.
-/
module

public import proofs.«01_k».proof.Proof.Hist

@[expose] public section

noncomputable section

namespace Cert.Proof.Hist

open Cert.KernelIdeal Cert.KernelIdeal.Gen
open Idealize.ShloMosaic

variable {F : FTy → Type} [FloatOps F]

/-- The words tile `w` reads: the `w`-th 6144 of the points'. -/
def ptsOf (X : Vec F S196608 .f32) (w : Fin 32) : Vec F S6144 .f32 := fun j =>
  X fun | 0 => ⟨6144 * w.val + (j 0).val, by
    have h : (j 0).val < 6144 := (j 0).isLt
    have hw := w.isLt
    show 6144 * w.val + (j 0).val < 196608
    omega⟩

/-- Lane `l`'s count of cell `c` in a histogram. -/
def cel (h : Vec F S2064 .f32) (l : Fin 16) (c : Fin 128) : F .f32 :=
  h fun | 0 => ⟨128 * l.val + c.val, by
    have := l.isLt
    have := c.isLt
    show 128 * l.val + c.val < 2064
    omega⟩

/-- The sixteen lanes' counts of cell `c`, added lowest lane first. -/
def redCell (h : Vec F S2064 .f32) (c : Fin 128) : F .f32 :=
  FloatOps.addf (FloatOps.addf (FloatOps.addf (FloatOps.addf (FloatOps.addf (FloatOps.addf (FloatOps.addf (FloatOps.addf (FloatOps.addf (FloatOps.addf
    (FloatOps.addf (FloatOps.addf (FloatOps.addf (FloatOps.addf (FloatOps.addf (cel h 0 c) (cel h 1 c)) (cel h 2 c)) (cel h 3 c)) (cel h 4 c)) (cel h 5 c))
    (cel h 6 c)) (cel h 7 c)) (cel h 8 c)) (cel h 9 c)) (cel h 10 c)) (cel h 11 c)) (cel h 12 c)) (cel h 13 c)) (cel h 14 c)) (cel h 15 c)

/-- The cell an index of an 8 by 16 block names. -/
def cellOf (p : S8x16.Idx) : Fin 128 := ⟨16 * (p 0).val + (p 1).val, by
  have h0 : (p 0).val < 8 := (p 0).isLt
  have h1 : (p 1).val < 16 := (p 1).isLt
  omega⟩

/-- A histogram's sum over the lanes, as an 8 by 16 block. -/
def redV (h : Vec F S2064 .f32) : Vec F S8x16 .f32 := fun p => redCell h (cellOf p)

/-- The empty histogram. -/
def zeros : Vec F S2064 .f32 := fun _ => z0

/-- Tile `w`'s counts. -/
def redOf (X : Vec F S196608 .f32) (w : Fin 32) : Vec F S8x16 .f32 := redV (histAt (ptsOf X w) zeros k0_t2_loop.trips)

/-- The lanes' sum reads only the lanes' cells, so it does not depend on what else the buffer held. -/
theorem redV_histAt (f : Vec F S6144 .f32) (h : Vec F S2064 .f32) (hz : ∀ j : S2064.Idx, (j 0).val < 2048 → h j = z0) (n : Nat) :
    redV (histAt f h n) = redV (histAt f zeros n) := by
  have hc : ∀ l c, cel (histAt f h n) l c = cel (histAt f zeros n) l c := fun l c =>
    histAt_congr f h zeros _ (hz _ (by have := l.isLt; have := c.isLt; show 128 * l.val + c.val < 2048; omega)) n
  funext p
  unfold redV redCell
  simp only [hc]

/-- What the tiles' shared buffer holds once every tile has stored its counts: row `w` tile `w`'s. -/
def shVal (X : Vec F S196608 .f32) : Vec F S32x8x16 .f32 := fun p =>
  redOf X ⟨(p 0).val, (p 0).isLt⟩ fun | 0 => ⟨(p 1).val, (p 1).isLt⟩ | 1 => ⟨(p 2).val, (p 2).isLt⟩

/-- Cloud `r`'s counts: its four tiles' sums. -/
def outRow (X : Vec F S196608 .f32) (r : Fin 8) : Vec F S8x16 .f32 := fun p =>
  FloatOps.addf
    (FloatOps.addf (redOf X ⟨4 * r.val, by omega⟩ p) (redOf X ⟨4 * r.val + 1, by omega⟩ p))
    (FloatOps.addf (redOf X ⟨4 * r.val + 2, by omega⟩ p) (redOf X ⟨4 * r.val + 3, by omega⟩ p))

/-- What the kernel's result buffer holds at the end. -/
def outVal (X : Vec F S196608 .f32) : Vec F S8x8x16 .f32 := fun p =>
  outRow X ⟨(p 0).val, (p 0).isLt⟩ fun | 0 => ⟨(p 1).val, (p 1).isLt⟩ | 1 => ⟨(p 2).val, (p 2).isLt⟩

end Cert.Proof.Hist
-- ==== Proof.Launch.lean ====
/-
  How the kernel is launched: the ghost state, which part of each array goes to which tile, what the
  subcore barrier hands over, and what a tile is given and gives back. Two SparseCores of sixteen tiles
  each; tile `i` of SparseCore `c` reads words 6144 (16 c + i) … of the points and stores its counts in
  row 16 c + i of its SparseCore's shared buffer; after the barrier tile `i < 4` reads rows 16 c + 4 i …
  + 3 and writes row 4 c + i of the result.
-/
module

public import proofs.«01_k».proof.Defs
public import proofs.«01_k».proof.Proof.Vals
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, and the ghost state -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev coreOf (c : Fin ((K (F := F)).nCore 0)) : Fin τ.nSC := (K (F := F)).core 0 c
abbrev subOf (i : Fin ((K (F := F)).nSub 0)) : Fin τ.nSub := (K (F := F)).sub 0 i
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays and their parts -/

variable (m : (ℓ : Loc nD τ sig) → Buf (Elt F) ℓ) (ρ : Dev nD → PrngReg)

/-- The points, the same as one row of words, the counts as the tiles write them, and the result. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2
abbrev shRef (c : Fin τ.nSC) : DevRef τ sig := ⟨.shared, ⟨0, by decide⟩, c⟩
/-- SparseCore `c`'s shared buffer. -/
abbrev shLoc (d : Dev nD) (c : Fin τ.nSC) : Loc nD τ sig := (d, shRef c)

/-- Tile `w`'s words of the points. -/
def xSet (w : ℕ) : Finset S196608.Idx := Finset.univ.filter fun p => (p 0).val / 6144 = w
/-- Row `w` of a shared buffer. -/
def shSet (w : ℕ) : Finset S32x8x16.Idx := Finset.univ.filter fun p => (p 0).val = w
/-- Of tile `n`'s row, what tile `j` of the same SparseCore reads: all of it or nothing. -/
def handSet (c j n : ℕ) : Finset S32x8x16.Idx := Finset.univ.filter fun p => (p 0).val = 16 * c + n ∧ n / 4 = j
/-- The four rows tile `j` reads, none from the fifth tile on. -/
def readSet (c j : ℕ) : Finset S32x8x16.Idx := Finset.univ.filter fun p => (p 0).val / 4 = 4 * c + j ∧ j < 4
/-- The row of the result tile `j` writes, none from the fifth tile on. -/
def oSet (c j : ℕ) : Finset S8x8x16.Idx := Finset.univ.filter fun p => (p 0).val = 4 * c + j ∧ j < 4
/-- SparseCore `c`'s words of the points, and its rows of the result. -/
def xCore (c : ℕ) : Finset S196608.Idx := Finset.univ.filter fun p => (p 0).val / 98304 = c
def oCore (c : ℕ) : Finset S8x8x16.Idx := Finset.univ.filter fun p => (p 0).val / 4 = c
/-- The rows of its shared buffer SparseCore `c` uses. -/
def shCore (c : ℕ) : Finset S32x8x16.Idx := Finset.univ.filter fun p => (p 0).val / 16 = c

variable [FloatOps F]

/-- The points' words on device `d`, as the launch memory has them. -/
def Xv (d : Dev nD) : Vec F S196608 .f32 := shapeCast S196608 (m (aLoc d)) shapeCasts_S8x8192x3_S196608

abbrev xPart (d : Dev nD) (w : ℕ) : sProp 𝕄 := xLoc d ↦[xSet w]{fullShare} (Xv m d : Buf (Elt F) (xLoc d))
abbrev oPart (d : Dev nD) (c j : ℕ) (f : Buf (Elt F) (oLoc d)) : sProp 𝕄 := oLoc d ↦[oSet c j]{fullShare} f
abbrev shPart (d : Dev nD) (c : Fin τ.nSC) (I : Finset S32x8x16.Idx) (f : Buf (Elt F) (shLoc d c)) : sProp 𝕄 := shLoc d c ↦[I]{fullShare} f
/-- What a tile's shared buffer holds at the barrier. -/
abbrev shV (d : Dev nD) (c : Fin τ.nSC) : Buf (Elt F) (shLoc d c) := shVal (Xv m d)
/-- What the result's buffer holds after the call. -/
abbrev oV (d : Dev nD) : Buf (Elt F) (oLoc d) := outVal (Xv m d)

/-! ## The barrier -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What tile `n` hands tile `j` at the barrier: its row of the shared buffer, holding its counts, if `j` is to read it. -/
def bPay (g : GSem nD τ sig) (n : ℕ) : sProp 𝕄 :=
  match g with
  | ((d, .scVector c j), _) => shPart d c (handSet c.val j.val n) (shV m d c)
  | _ => iprop(emp)

/-- One round on each tile's barrier semaphore, one unit from each of the SparseCore's tiles, each with what it hands over. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_duties_succ (g : GSem nD τ sig) (r : ℕ) (hr : 1 ≤ r) : (bRd (F := F) m).duties g r = ∅ :=
  if_neg fun h => absurd h.2 (Nat.ne_of_gt hr)
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- A tile owes every tile of its SparseCore a unit at the barrier. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals tile `(c, i)` for the barrier: the cells' invariants, its tokens, its own place and credit. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What tile `(c, i)` is given: its words of the points, its row of the result, its row of the shared buffer. -/
abbrev given (d : Dev nD) (c : Fin τ.nSC) (i : Fin τ.nSub) : sProp 𝕄 :=
  iprop(xPart m d (16 * c.val + i.val) ∗ oPart d c.val i.val (m (oLoc d)) ∗ ∃ f, shPart d c (shSet (16 * c.val + i.val)) f)
/-- What it gives back: its words unchanged, its row of the result with its cloud's counts, and the rows it read. -/
abbrev back (d : Dev nD) (c : Fin τ.nSC) (i : Fin τ.nSub) : sProp 𝕄 :=
  iprop(xPart m d (16 * c.val + i.val) ∗ oPart d c.val i.val (oV m d) ∗ shPart d c (readSet c.val i.val) (shV m d c))

set_option backward.proofsInPublic true in
/-- What each handshake of the one call carries. -/
def P : (K (F := F)).Pay (nD := nD) (Val := Elt F) (Name := ℕ) (U := UU) where
  st := fun q d c => match q with
    | 0 => iprop((xLoc d ↦[xCore (coreOf c).val]{fullShare} (Xv m d : Buf (Elt F) (xLoc d))) ∗ oLoc d ↦[oCore (coreOf c).val]{fullShare} m (oLoc d))
  dn := fun q d c => match q with
    | 0 => iprop(((xLoc d ↦[xCore (coreOf c).val]{fullShare} (Xv m d : Buf (Elt F) (xLoc d))) ∗ oLoc d ↦[oCore (coreOf c).val]{fullShare} oV m d)
        ∗ bigSep Finset.univ fun i : Fin ((K (F := F)).nSub 0) => semVal (bcell d (coreOf c) (subOf i)) 0)
  go := fun q d c i => match q with | 0 => given m d (coreOf c) (subOf i)
  td := fun q d c i => match q with | 0 => iprop(back m d (coreOf c) (subOf i) ∗ semVal (bcell d (coreOf c) (subOf i)) 0)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄)
        iprop((xLoc d ↦[xCore (coreOf c).val]{fullShare} (Xv m d : Buf (Elt F) (xLoc d))) ∗ oLoc d ↦[oCore (coreOf c).val]{fullShare} m (oLoc d)))
  dn q d c := match q with
    | 0 => (inferInstance : BI.Storable (upEmb : UEmb _ 𝕄)
        iprop(((xLoc d ↦[xCore (coreOf c).val]{fullShare} (Xv m d : Buf (Elt F) (xLoc d))) ∗ oLoc d ↦[oCore (coreOf c).val]{fullShare} oV m d)
          ∗ bigSep Finset.univ fun i : Fin ((K (F := F)).nSub 0) => semVal (bcell d (coreOf c) (subOf i)) 0))
  go q d c i := match q with | 0 => (inferInstance : BI.Storable (upEmb : UEmb _ 𝕄) (given m d (coreOf c) (subOf i)))
  td q d c i := match q with
    | 0 => (inferInstance : BI.Storable (upEmb : UEmb _ 𝕄) iprop(back m d (coreOf c) (subOf i) ∗ semVal (bcell d (coreOf c) (subOf i)) 0))

/-! ## The barrier's rows, as sets -/

omit [FloatOps F] in
theorem handSet_disjoint_j (c n : ℕ) {j j' : ℕ} (h : j ≠ j') : Disjoint (handSet c j n) (handSet c j' n) :=
  Finset.disjoint_left.mpr fun p hp hp' => h ((Finset.mem_filter.mp hp).2.2.symm.trans (Finset.mem_filter.mp hp').2.2)
omit [FloatOps F] in
theorem handSet_disjoint_n (c j : ℕ) {n n' : ℕ} (h : n ≠ n') : Disjoint (handSet c j n) (handSet c j n') :=
  Finset.disjoint_left.mpr fun p hp hp' => h (by
    have := (Finset.mem_filter.mp hp).2.1; have := (Finset.mem_filter.mp hp').2.1; omega)
omit [FloatOps F] in
/-- A tile's row is what it hands the sixteen tiles. -/
theorem handSet_cover_j (c n : ℕ) (hn : n < 16) :
    ((Finset.univ : Finset (Fin (grid0.bound 1))).biUnion fun j => handSet c (j.castLE hsub0).val n) = shSet (16 * c + n) := by
  ext p
  simp only [Finset.mem_biUnion, Finset.mem_univ, true_and, handSet, shSet, Finset.mem_filter]
  constructor
  · rintro ⟨j, h, -⟩; exact h
  · intro h; exact ⟨⟨n / 4, by show n / 4 < 16; omega⟩, h, rfl⟩
omit [FloatOps F] in
/-- What a tile reads is what the sixteen tiles hand it. -/
theorem handSet_cover_n (c j : ℕ) :
    (((Finset.univ : Finset (Fin τ.nSub)).image Fin.val).biUnion fun n => handSet c j n) = readSet c j := by
  ext p
  simp only [Finset.mem_biUnion, Finset.mem_image, Finset.mem_univ, true_and, handSet, readSet, Finset.mem_filter]
  constructor
  · rintro ⟨n, ⟨i, rfl⟩, h, e⟩
    have hi : i.val < 16 := i.isLt
    omega
  · rintro ⟨h, hj⟩
    exact ⟨(p 0).val - 16 * c, ⟨⟨(p 0).val - 16 * c, by show _ < 16; omega⟩, rfl⟩, by omega, by omega⟩

/-- Before the barrier a tile's row, holding its counts, is what it hands the tiles. -/
theorem pays_intro (d : Dev nD) (c : Fin τ.nSC) (i : Fin τ.nSub) : (shPart d c (shSet (16 * c.val + i.val)) (shV m d c) : sProp 𝕄)
    ⊢ bigSep Finset.univ fun j : Fin (grid0.bound 1) => (bRd (F := F) m).payload (bcell d c (j.castLE hsub0)) 0 i.val := by
  show _ ⊢ bigSep Finset.univ fun j : Fin (grid0.bound 1) => shPart d c (handSet c.val (j.castLE hsub0).val i.val) (shV m d c)
  unfold shPart
  rw [← pointsTo_biUnion Finset.univ (ℓ := shLoc d c) (fun j : Fin (grid0.bound 1) => handSet c.val (j.castLE hsub0).val i.val)
    (fun j _ j' _ h => handSet_disjoint_j _ _ fun e => h (Fin.ext e)), handSet_cover_j _ _ i.isLt]

/-- After it a tile holds the rows it reads, with the counts of the tiles whose rows they are. -/
theorem pays_elim (d : Dev nD) (c : Fin τ.nSC) (i : Fin τ.nSub) :
    (bigSep ((bRd (F := F) m).duties (bcell d c i) 0 \ ∅) fun n => (bRd (F := F) m).payload (bcell d c i) 0 n)
      ⊢ (shPart d c (readSet c.val i.val) (shV m d c) : sProp 𝕄) := by
  rw [Finset.sdiff_empty, bRd_duties₀]
  show (bigSep _ fun n => shPart d c (handSet c.val i.val n) (shV m d c)) ⊢ _
  unfold shPart
  rw [← pointsTo_biUnion _ (ℓ := shLoc d c) (fun n => handSet c.val i.val n) (fun n _ n' _ h => handSet_disjoint_n _ _ h), handSet_cover_n]

end Cert.Proof.Hist
-- ==== Proof.Steps.lean ====
/-
  The two loops of a tile's task: the first clears the lanes' cells of the histogram, sixteen words a
  step; the second gathers sixteen points a step and adds one to each one's cell.
-/
module

public import proofs.«01_k».proof.Proof.Launch

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xM" => (Memref.whole Cert.KernelIdeal.main_v0_scv : Memref Cert.KernelIdeal.sig Kind.scVector Space.hbm Cert.KernelIdeal.S196608 EltTy.f32)
local notation "oM" => (Memref.whole Cert.KernelIdeal.main_v1_scv : Memref Cert.KernelIdeal.sig Kind.scVector Space.hbm Cert.KernelIdeal.S8x8x16 EltTy.f32)
local notation "pM" => (Memref.whole Cert.KernelIdeal.cc0_scratch0 : Memref Cert.KernelIdeal.sig Kind.scVector Space.vmem Cert.KernelIdeal.S6144 EltTy.f32)
local notation "hM" => (Memref.whole Cert.KernelIdeal.cc0_scratch1 : Memref Cert.KernelIdeal.sig Kind.scVector Space.vmem Cert.KernelIdeal.S2064 EltTy.f32)
local notation "rM" => (Memref.whole Cert.KernelIdeal.cc0_scratch2 : Memref Cert.KernelIdeal.sig Kind.scVector Space.vmem Cert.KernelIdeal.S8x16 EltTy.f32)
local notation "qM" => (Memref.whole Cert.KernelIdeal.cc0_scratch3 : Memref Cert.KernelIdeal.sig Kind.scVector Space.vmem Cert.KernelIdeal.S4x8x16 EltTy.f32)
local notation "sM" => (Memref.whole Cert.KernelIdeal.cc0_scratch4 : Memref Cert.KernelIdeal.sig Kind.scVector Space.shared Cert.KernelIdeal.S32x8x16 EltTy.f32)

variable [FloatOps F]
variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first loop's region at the tile's buffers, and the second's. -/
abbrev clearBody (k : Fin k0_t1_loop.trips) :=
  k0_t1_body (F := F) L xM (Memref.isWhole_whole _) oM (Memref.isWhole_whole _) pM (Memref.isWhole_whole _) hM (Memref.isWhole_whole _)
    rM (Memref.isWhole_whole _) qM (Memref.isWhole_whole _) sM (Memref.isWhole_whole _) cc0_scoped0 cc0_scoped1 cc0_scoped2 cc0_scoped3 k ⟨⟩
abbrev countBody (k : Fin k0_t2_loop.trips) :=
  k0_t2_body (F := F) L xM (Memref.isWhole_whole _) oM (Memref.isWhole_whole _) pM (Memref.isWhole_whole _) hM (Memref.isWhole_whole _)
    rM (Memref.isWhole_whole _) qM (Memref.isWhole_whole _) sM (Memref.isWhole_whole _) cc0_scoped0 cc0_scoped1 cc0_scoped2 cc0_scoped3 k ⟨⟩

/-- The histogram's buffer whole, at `g`; the points' buffer whole, at `f`. -/
abbrev hAt (g : Vec F S2064 .f32) : sProp 𝕄 := (hM).view.loc (thr d L) ↦{fullShare} (g : Buf (Elt F) ((hM).view.loc (thr d L)))
abbrev pAt (f : Vec F S6144 .f32) : sProp 𝕄 := (pM).view.loc (thr d L) ↦{fullShare} (f : Buf (Elt F) ((pM).view.loc (thr d L)))

/-- A gather from the points' buffer. -/
theorem wp_gather {α : Type} {f : Vec F S6144 .f32} {ix : Fin 1 → IVec S16 32} {hx : ∀ a x, (ix a x).toNat < S6144.size a} {hl : (pM).view.Loads}
    {k : Vec F S16 .f32 → Prog (TpuEff nD τ sig (Elt F) Λ₀ (.scVector (cV L) (jV L))) α} {Q : α → sProp 𝕄} :
    (pAt d L f : sProp 𝕄)
      ⊢ iprop((pAt d L f -∗ wp frame (wpE (defs₀ (F := F)) 𝒱₀ (thr d L) none) Set.univ (k (loadIdx f ix hx)) Q)
        -∗ wp frame (wpE (defs₀ (F := F)) 𝒱₀ (thr d L) none) Set.univ (SparseCore.vectorLoadIdx pM ix hx hl >>= k) Q) := by
  have h := SparseCore.wp_vectorLoadIdx (defs := defs₀ (F := F)) 𝒱₀ (thr d L) none Set.univ (base := pM) (idxs := ix) (h := hx) (hl := hl) (k := k)
    (S := Finset.univ) (q := fullShare) (f := f) (Q := Q) (Finset.subset_univ _)
  rw [Memref.read_access_whole (Elt F) cc0_scratch0 f] at h
  exact h

/-- A scatter into the histogram. -/
theorem wp_scatter {α : Type} {g : Vec F S2064 .f32} {ix : Fin 1 → IVec S16 32} {v : Vec F S16 .f32} {hx : ∀ a x, (ix a x).toNat < S2064.size a}
    {hs : ((hM).access (.whole S2064)).Stores Finset.univ}
    {k : PUnit → Prog (TpuEff nD τ sig (Elt F) Λ₀ (.scVector (cV L) (jV L))) α} {Q : α → sProp 𝕄} :
    (hAt d L g : sProp 𝕄)
      ⊢ iprop((hAt d L (storeIdx (d := ![16]) g ix v (fun _ => 1#1) true hx) -∗ wp frame (wpE (defs₀ (F := F)) 𝒱₀ (thr d L) none) Set.univ (k ⟨⟩) Q)
        -∗ wp frame (wpE (defs₀ (F := F)) 𝒱₀ (thr d L) none) Set.univ (SparseCore.vectorStoreIdx hM ix v (fun _ => 1#1) true hx hs >>= k) Q) := by
  have h := SparseCore.wp_vectorStoreIdx (defs := defs₀ (F := F)) 𝒱₀ (thr d L) none Set.univ (base := hM) (idxs := ix) (v := v) (mask := fun _ => 1#1)
    (add := true) (h := hx) (hs := hs) (k := k) (f := g) (Q := Q)
  rw [Memref.read_access_whole (Elt F) cc0_scratch1 g, Memref.write_access_whole_univ (Elt F) cc0_scratch1 g, Memref.set_access_whole cc0_scratch1] at h
  exact h

/-- A step of the first loop clears the next sixteen words. -/
theorem clear_step (k : Fin k0_t1_loop.trips) (g : Vec F S2064 .f32) (hg : ∀ j : S2064.Idx, (j 0).val < 16 * k.val → g j = z0) :
    (hAt d L g : sProp 𝕄)
      ⊢ wp frame (wpE (defs₀ (F := F)) 𝒱₀ (thr d L) none) Set.univ (clearBody L k)
          fun _ => iprop(∃ g', ⌜∀ j : S2064.Idx, (j 0).val < 16 * (k.val + 1) → g' j = z0⌝ ∗ hAt d L g') := by
  unfold clearBody k0_t1_body
  iintro H
  sl_exec
  sl_step
  iexists _; isplitr
  swap; · iexact H
  ipureintro
  intro j hj
  show (hM).view.read (Elt F) ((hM).view.writes (Elt F) g [⟨Rect.unit (k0_off2 k) S16.size (k0_off2_inb k), k0_pay30⟩]) j = z0
  by_cases h : (j 0).val < 16 * k.val
  · rw [View.read_writes_cons_miss_of_axis _ _ _ _ _ 0 (16 * k.val) 16 (by show k0_off2 k 0 = _; rw [k0_off2_eq]; rfl) rfl rfl (.inl h)]
    exact hg j h
  · refine View.read_writes_apply_of_pieces (Val := Elt F) (e := .f32) (hM).view g (fun _ => (z0 : F .f32)) _ (fun p hp x => ?_) j ⟨_, List.mem_singleton_self _, ?_⟩
    · obtain rfl := List.mem_singleton.mp hp; rfl
    · refine (Rect.mem_set_unit (inb := k0_off2_inb k)).mpr fun a => ?_
      rw [k0_off2_eq]
      match a with
      | 0 => exact ⟨Nat.le_of_not_lt h, by show (j 0).val < 16 * k.val + 16; omega⟩

set_option maxHeartbeats 1000000 in
/-- A step of the second loop takes the histogram a step further. -/
theorem count_step (k : Fin k0_t2_loop.trips) (f : Vec F S6144 .f32) (h : Vec F S2064 .f32) :
    iprop(pAt d L f ∗ hAt d L (histAt f h k.val))
      ⊢ wp frame (wpE (defs₀ (F := F)) 𝒱₀ (thr d L) none) Set.univ (countBody L k)
          fun _ => (iprop(pAt d L f ∗ hAt d L (histAt f h (k.val + 1))) : sProp 𝕄) := by
  unfold countBody k0_t2_body
  simp only [k0_part1_eq_skeleton, k0_part2_eq_skeleton]
  unfold k0_part1_skel k0_part2_skel
  iintro ⟨Hp, Hh⟩
  sl_exec (disch := exact chkX k)
  rw [bind_assoc]
  iapply (wp_gather d L) $$ Hp; iintro Hp
  sl_exec (disch := exact chkY k)
  rw [bind_assoc]
  iapply (wp_gather d L) $$ Hp; iintro Hp
  sl_exec (disch := exact chkZ k)
  rw [bind_assoc]
  iapply (wp_gather d L) $$ Hp; iintro Hp
  sl_exec (disch := exact chkB _ _ _)
  iapply (wp_scatter d L) $$ Hh; iintro Hh
  sl_exec
  sl_step
  rw [histAt_succ]
  isplitl [Hp]; · iexact Hp
  iexact Hh

end Cert.Proof.Hist
-- ==== Proof.Parts.lean ====
/-
  A tile's task, run at any tile: the copy of its words, the two loops, the sums over the lanes and their
  copy into the shared buffer, the barrier, and for the first four tiles the sums over four tiles and their
  copy into the result.
-/
module

public import proofs.«01_k».proof.Proof.Steps
public import Idealize.ShloMosaic.Lib.Pipeline.ValueKit

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xM" => (Memref.whole Cert.KernelIdeal.main_v0_scv : Memref Cert.KernelIdeal.sig Kind.scVector Space.hbm Cert.KernelIdeal.S196608 EltTy.f32)
local notation "oM" => (Memref.whole Cert.KernelIdeal.main_v1_scv : Memref Cert.KernelIdeal.sig Kind.scVector Space.hbm Cert.KernelIdeal.S8x8x16 EltTy.f32)
local notation "pM" => (Memref.whole Cert.KernelIdeal.cc0_scratch0 : Memref Cert.KernelIdeal.sig Kind.scVector Space.vmem Cert.KernelIdeal.S6144 EltTy.f32)
local notation "hM" => (Memref.whole Cert.KernelIdeal.cc0_scratch1 : Memref Cert.KernelIdeal.sig Kind.scVector Space.vmem Cert.KernelIdeal.S2064 EltTy.f32)
local notation "rM" => (Memref.whole Cert.KernelIdeal.cc0_scratch2 : Memref Cert.KernelIdeal.sig Kind.scVector Space.vmem Cert.KernelIdeal.S8x16 EltTy.f32)
local notation "qM" => (Memref.whole Cert.KernelIdeal.cc0_scratch3 : Memref Cert.KernelIdeal.sig Kind.scVector Space.vmem Cert.KernelIdeal.S4x8x16 EltTy.f32)
local notation "sM" => (Memref.whole Cert.KernelIdeal.cc0_scratch4 : Memref Cert.KernelIdeal.sig Kind.scVector Space.shared Cert.KernelIdeal.S32x8x16 EltTy.f32)

variable [FloatOps F]
variable (d : Dev nD) (L : grid0.Coords)

/-! ## The parts of the arrays as the task addresses them -/

abbrev xRow (L : grid0.Coords) : Memref sig .scVector .hbm S6144 .f32 := (xM).slice (Rect.unit (s := S196608) (k0_off1 L) S6144.size (k0_off1_inb L)) (fun _ => rfl)
abbrev shRow (L : grid0.Coords) : Memref sig .scVector .shared S8x16 .f32 :=
  ((sM).slice (Rect.unit (s := S32x8x16) (k0_off3 L) S1x8x16.size (k0_off3_inb L)) (fun _ => rfl)).squeeze S8x16 squeezes_S1x8x16_S8x16
abbrev shFour (L : grid0.Coords) (h : k0_cond1 L = 1#1) : Memref sig .scVector .shared S4x8x16 .f32 :=
  (sM).slice (Rect.unit (s := S32x8x16) (k0_off4 L) S4x8x16.size (k0_off4_inb L h)) (fun _ => rfl)
abbrev oRow (L : grid0.Coords) (h : k0_cond1 L = 1#1) : Memref sig .scVector .hbm S8x16 .f32 :=
  ((oM).slice (Rect.unit (s := S8x8x16) (k0_off5 L) S1x8x16.size (k0_off5_inb L h)) (fun _ => rfl)).squeeze S8x16 squeezes_S1x8x16_S8x16

omit [FloatOps F] in
theorem cond_iff : k0_cond1 L = 1#1 ↔ (jV L).val < 4 := by
  show k0_cond1 L = 1#1 ↔ (L 1).val < 4
  have h : (L 1).val < 16 := (L 1).isLt
  unfold k0_cond1
  generalize (L 1).val = n at h ⊢
  interval_cases n <;> decide

omit [FloatOps F] in
theorem set_xRow : (xRow L).view.set = xSet (16 * (cV L).val + (jV L).val) := by
  ext p
  have hp : (p 0).val < 196608 := (p 0).isLt
  refine (ValueKit.mem_set_slice_whole_iff main_v0_scv _ p Rect.mem_set_unit).trans ?_
  rw [k0_off1_eq]
  simp only [xSet, Finset.mem_filter, Finset.mem_univ, true_and]
  refine Fin.forall_fin_one.trans ?_
  show (98304 * (L 0).val + 6144 * (L 1).val ≤ (p 0).val ∧ (p 0).val < 98304 * (L 0).val + 6144 * (L 1).val + 6144) ↔ (p 0).val / 6144 = 16 * (L 0).val + (L 1).val
  omega

omit [FloatOps F] in
theorem set_shRow : (shRow L).view.set = shSet (16 * (cV L).val + (jV L).val) := by
  show (((sM).view.slice (Rect.unit (s := S32x8x16) (k0_off3 L) S1x8x16.size (k0_off3_inb L))).reshape S8x16 squeezes_S1x8x16_S8x16.numel_eq).set = _
  rw [View.set_reshape]
  refine Finset.ext fun (p : S32x8x16.Idx) => ?_
  refine (ValueKit.mem_set_slice_whole_iff cc0_scratch4 _ p Rect.mem_set_unit).trans ?_
  suffices key : ∀ o : Fin 3 → ℕ, o = ![16 * (L 0).val + (L 1).val, 0, 0] → ((∀ a : Fin 3, o a ≤ (p a).val ∧ (p a).val < o a + S1x8x16.size a) ↔ p ∈ shSet (16 * (cV L).val + (jV L).val)) from
    key _ (k0_off3_eq L)
  rintro _ rfl
  simp only [shSet, Finset.mem_filter, Finset.mem_univ, true_and]
  have h1 : (p 1).val < 8 := (p 1).isLt
  have h2 : (p 2).val < 16 := (p 2).isLt
  refine ⟨fun h => ?_, fun h a => ?_⟩
  · have := h 0
    change 16 * (L 0).val + (L 1).val ≤ (p 0).val ∧ (p 0).val < 16 * (L 0).val + (L 1).val + 1 at this
    show (p 0).val = 16 * (L 0).val + (L 1).val
    omega
  · change (p 0).val = 16 * (L 0).val + (L 1).val at h
    match a with
    | 0 => show 16 * (L 0).val + (L 1).val ≤ (p 0).val ∧ (p 0).val < 16 * (L 0).val + (L 1).val + 1; omega
    | 1 => show 0 ≤ (p 1).val ∧ (p 1).val < 0 + 8; omega
    | 2 => show 0 ≤ (p 2).val ∧ (p 2).val < 0 + 16; omega

omit [FloatOps F] in
theorem set_shFour (hc : k0_cond1 L = 1#1) : (shFour L hc).view.set = readSet (cV L).val (jV L).val := by
  have hj : (L 1).val < 4 := (cond_iff L).mp hc
  ext p
  refine (ValueKit.mem_set_slice_whole_iff cc0_scratch4 _ p Rect.mem_set_unit).trans ?_
  rw [k0_off4_eq]
  simp only [readSet, Finset.mem_filter, Finset.mem_univ, true_and]
  have h1 : (p 1).val < 8 := (p 1).isLt
  have h2 : (p 2).val < 16 := (p 2).isLt
  refine ⟨fun h => ?_, fun h a => ?_⟩
  · have := h 0
    change 16 * (L 0).val + 4 * (L 1).val ≤ (p 0).val ∧ (p 0).val < 16 * (L 0).val + 4 * (L 1).val + 4 at this
    show (p 0).val / 4 = 4 * (L 0).val + (L 1).val ∧ (L 1).val < 4
    omega
  · change (p 0).val / 4 = 4 * (L 0).val + (L 1).val ∧ (L 1).val < 4 at h
    match a with
    | 0 => show 16 * (L 0).val + 4 * (L 1).val ≤ (p 0).val ∧ (p 0).val < 16 * (L 0).val + 4 * (L 1).val + 4; omega
    | 1 => show 0 ≤ (p 1).val ∧ (p 1).val < 0 + 8; omega
    | 2 => show 0 ≤ (p 2).val ∧ (p 2).val < 0 + 16; omega

omit [FloatOps F] in
theorem set_oRow (hc : k0_cond1 L = 1#1) : (oRow L hc).view.set = oSet (cV L).val (jV L).val := by
  have hj : (L 1).val < 4 := (cond_iff L).mp hc
  show (((oM).view.slice (Rect.unit (s := S8x8x16) (k0_off5 L) S1x8x16.size (k0_off5_inb L hc))).reshape S8x16 squeezes_S1x8x16_S8x16.numel_eq).set = _
  rw [View.set_reshape]
  refine Finset.ext fun (p : S8x8x16.Idx) => ?_
  refine (ValueKit.mem_set_slice_whole_iff main_v1_scv _ p Rect.mem_set_unit).trans ?_
  suffices key : ∀ o : Fin 3 → ℕ, o = ![4 * (L 0).val + (L 1).val, 0, 0] → ((∀ a : Fin 3, o a ≤ (p a).val ∧ (p a).val < o a + S1x8x16.size a) ↔ p ∈ oSet (cV L).val (jV L).val) from
    key _ (k0_off5_eq L)
  rintro _ rfl
  simp only [oSet, Finset.mem_filter, Finset.mem_univ, true_and]
  have h1 : (p 1).val < 8 := (p 1).isLt
  have h2 : (p 2).val < 16 := (p 2).isLt
  refine ⟨fun h => ?_, fun h a => ?_⟩
  · have := h 0
    change 4 * (L 0).val + (L 1).val ≤ (p 0).val ∧ (p 0).val < 4 * (L 0).val + (L 1).val + 1 at this
    show (p 0).val = 4 * (L 0).val + (L 1).val ∧ (L 1).val < 4
    omega
  · change (p 0).val = 4 * (L 0).val + (L 1).val ∧ (L 1).val < 4 at h
    match a with
    | 0 => show 4 * (L 0).val + (L 1).val ≤ (p 0).val ∧ (p 0).val < 4 * (L 0).val + (L 1).val + 1; omega
    | 1 => show 0 ≤ (p 1).val ∧ (p 1).val < 0 + 8; omega
    | 2 => show 0 ≤ (p 2).val ∧ (p 2).val < 0 + 16; omega

/-- From the fifth tile on there is no row of the result to write and no row to read. -/
theorem oSet_empty (c j : ℕ) (h : ¬ j < 4) : oSet c j = ∅ := Finset.filter_eq_empty_iff.mpr fun _ _ e => h e.2
theorem readSet_empty (c j : ℕ) (h : ¬ j < 4) : readSet c j = ∅ := Finset.filter_eq_empty_iff.mpr fun _ _ e => h e.2

end Cert.Proof.Hist
-- ==== Proof.Fill.lean ====
/-
  What the tile's own buffers hold after its stores and copies, index by index: the words the copy in
  brings, the eight rows of sums over the lanes, the eight rows of sums of four tiles, and the two rows
  the copies out leave in the shared buffer and in the result.
-/
module

public import proofs.«01_k».proof.Proof.Parts
public import proofs.«01_k».proof.Proof.Steps

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xM" => (Memref.whole Cert.KernelIdeal.main_v0_scv : Memref Cert.KernelIdeal.sig Kind.scVector Space.hbm Cert.KernelIdeal.S196608 EltTy.f32)
local notation "oM" => (Memref.whole Cert.KernelIdeal.main_v1_scv : Memref Cert.KernelIdeal.sig Kind.scVector Space.hbm Cert.KernelIdeal.S8x8x16 EltTy.f32)
local notation "pM" => (Memref.whole Cert.KernelIdeal.cc0_scratch0 : Memref Cert.KernelIdeal.sig Kind.scVector Space.vmem Cert.KernelIdeal.S6144 EltTy.f32)
local notation "hM" => (Memref.whole Cert.KernelIdeal.cc0_scratch1 : Memref Cert.KernelIdeal.sig Kind.scVector Space.vmem Cert.KernelIdeal.S2064 EltTy.f32)
local notation "rM" => (Memref.whole Cert.KernelIdeal.cc0_scratch2 : Memref Cert.KernelIdeal.sig Kind.scVector Space.vmem Cert.KernelIdeal.S8x16 EltTy.f32)
local notation "qM" => (Memref.whole Cert.KernelIdeal.cc0_scratch3 : Memref Cert.KernelIdeal.sig Kind.scVector Space.vmem Cert.KernelIdeal.S4x8x16 EltTy.f32)
local notation "sM" => (Memref.whole Cert.KernelIdeal.cc0_scratch4 : Memref Cert.KernelIdeal.sig Kind.scVector Space.shared Cert.KernelIdeal.S32x8x16 EltTy.f32)

variable [FloatOps F]

variable (d : Dev nD) (L : grid0.Coords)

/-- Row `k`, column `c` of an 8 by 16 block. -/
def at8 (k : Fin 8) (c : Fin 16) : S8x16.Idx := fun | 0 => k | 1 => c

/-! ## Eight rows stored -/

/-- Eight stores that fill an 8 by 16 block row by row leave the block they spell. -/
theorem fill8 (r0 : Vec F S8x16 .f32) (G : Vec F S8x16 .f32) (p0 p1 p2 p3 p4 p5 p6 p7 : Vec F S1x16 .f32)
    (h0 : ∀ x : S1x16.Idx, p0 x = G (at8 0 (x 1))) (h1 : ∀ x : S1x16.Idx, p1 x = G (at8 1 (x 1)))
    (h2 : ∀ x : S1x16.Idx, p2 x = G (at8 2 (x 1))) (h3 : ∀ x : S1x16.Idx, p3 x = G (at8 3 (x 1)))
    (h4 : ∀ x : S1x16.Idx, p4 x = G (at8 4 (x 1))) (h5 : ∀ x : S1x16.Idx, p5 x = G (at8 5 (x 1)))
    (h6 : ∀ x : S1x16.Idx, p6 x = G (at8 6 (x 1))) (h7 : ∀ x : S1x16.Idx, p7 x = G (at8 7 (x 1))) :
    (rM).view.read (Elt F) ((rM).view.writes (Elt F) r0
      [⟨Rect.unit (s := S8x16) ![7, 0] S1x16.size inb_S8x16_S1x16_7_0, p7⟩, ⟨Rect.unit (s := S8x16) ![6, 0] S1x16.size inb_S8x16_S1x16_6_0, p6⟩,
       ⟨Rect.unit (s := S8x16) ![5, 0] S1x16.size inb_S8x16_S1x16_5_0, p5⟩, ⟨Rect.unit (s := S8x16) ![4, 0] S1x16.size inb_S8x16_S1x16_4_0, p4⟩,
       ⟨Rect.unit (s := S8x16) ![3, 0] S1x16.size inb_S8x16_S1x16_3_0, p3⟩, ⟨Rect.unit (s := S8x16) ![2, 0] S1x16.size inb_S8x16_S1x16_2_0, p2⟩,
       ⟨Rect.unit (s := S8x16) ![1, 0] S1x16.size inb_S8x16_S1x16_1_0, p1⟩, ⟨Rect.unit (s := S8x16) ![0, 0] S1x16.size inb_S8x16_S1x16_0_0, p0⟩]) = G := by
  have row : ∀ (k : ℕ) (kk : Fin 8) (hk : kk.val = k) (inb : ∀ a, (![k, 0] : Fin 2 → ℕ) a + S1x16.size a ≤ S8x16.size a) (p : Vec F S1x16 .f32)
      (_ : ∀ x : S1x16.Idx, p x = G (at8 kk (x 1))) (x : S1x16.Idx),
      p x = G ((Rect.unit (s := S8x16) ![k, 0] S1x16.size inb).emb x) := by
    intro k kk hk inb p hp x
    rw [hp x]
    refine congrArg G (funext fun a => ?_)
    have hx : (x 0).val < 1 := (x 0).isLt
    match a with
    | 0 => exact Fin.ext (show kk.val = k + 1 * (x 0).val by omega)
    | 1 => exact Fin.ext (show (x 1).val = 0 + 1 * (x 1).val by omega)
  have cov : ∀ (y : S8x16.Idx) (k : ℕ) (inb : ∀ a, (![k, 0] : Fin 2 → ℕ) a + S1x16.size a ≤ S8x16.size a), (y 0).val = k →
      y ∈ (Rect.unit (s := S8x16) ![k, 0] S1x16.size inb).set := by
    intro y k inb hk
    have hy : (y 1).val < 16 := (y 1).isLt
    refine (Rect.mem_set_unit (inb := inb)).mpr fun a => ?_
    match a with
    | 0 => show k ≤ (y 0).val ∧ (y 0).val < k + 1; omega
    | 1 => show 0 ≤ (y 1).val ∧ (y 1).val < 0 + 16; omega
  funext y
  refine View.read_writes_apply_of_pieces (Val := Elt F) (e := .f32) (rM).view r0 G _ (fun p hp x => ?_) y ?_
  · simp only [List.mem_cons, List.not_mem_nil, _root_.or_false] at hp
    rcases hp with rfl | rfl | rfl | rfl | rfl | rfl | rfl | rfl
    · exact row 7 7 rfl inb_S8x16_S1x16_7_0 p7 h7 x
    · exact row 6 6 rfl inb_S8x16_S1x16_6_0 p6 h6 x
    · exact row 5 5 rfl inb_S8x16_S1x16_5_0 p5 h5 x
    · exact row 4 4 rfl inb_S8x16_S1x16_4_0 p4 h4 x
    · exact row 3 3 rfl inb_S8x16_S1x16_3_0 p3 h3 x
    · exact row 2 2 rfl inb_S8x16_S1x16_2_0 p2 h2 x
    · exact row 1 1 rfl inb_S8x16_S1x16_1_0 p1 h1 x
    · exact row 0 0 rfl inb_S8x16_S1x16_0_0 p0 h0 x
  · have hy : (y 0).val < 8 := (y 0).isLt
    have h8 : (y 0).val = 0 ∨ (y 0).val = 1 ∨ (y 0).val = 2 ∨ (y 0).val = 3 ∨ (y 0).val = 4 ∨ (y 0).val = 5 ∨ (y 0).val = 6 ∨ (y 0).val = 7 := by omega
    simp only [List.mem_cons, List.not_mem_nil, _root_.or_false, exists_eq_or_imp, exists_eq_left]
    rcases h8 with h | h | h | h | h | h | h | h
    · exact .inr (.inr (.inr (.inr (.inr (.inr (.inr (cov y 0 inb_S8x16_S1x16_0_0 h)))))))
    · exact .inr (.inr (.inr (.inr (.inr (.inr (.inl (cov y 1 inb_S8x16_S1x16_1_0 h)))))))
    · exact .inr (.inr (.inr (.inr (.inr (.inl (cov y 2 inb_S8x16_S1x16_2_0 h))))))
    · exact .inr (.inr (.inr (.inr (.inl (cov y 3 inb_S8x16_S1x16_3_0 h)))))
    · exact .inr (.inr (.inr (.inl (cov y 4 inb_S8x16_S1x16_4_0 h))))
    · exact .inr (.inr (.inl (cov y 5 inb_S8x16_S1x16_5_0 h)))
    · exact .inr (.inl (cov y 6 inb_S8x16_S1x16_6_0 h))
    · exact .inl (cov y 7 inb_S8x16_S1x16_7_0 h)

/-! ## A row of sums over the lanes -/

/-- Sixteen words of the histogram, loaded. -/
abbrev ldH (h : Vec F S2064 .f32) (o : ℕ) (inb : ∀ a, (![o] : Fin 1 → ℕ) a + S16.size a ≤ S2064.size a) : Vec F S16 .f32 :=
  (hM).view.readAt (Elt F) (Rect.unit (s := S2064) ![o] S16.size inb).toLoadRect h

/-- The load's word `x` is the lane's count of the cell it is named for. -/
theorem ldH_cel (h : Vec F S2064 .f32) (o : ℕ) (inb : ∀ a, (![o] : Fin 1 → ℕ) a + S16.size a ≤ S2064.size a) (l : Fin 16) (c : Fin 128) (x : S16.Idx)
    (ho : o + (x 0).val = 128 * l.val + c.val) : ldH h o inb x = cel h l c := by
  refine congrArg h (funext fun a => ?_)
  match a with
  | 0 => exact Fin.ext (show o + 1 * (x 0).val = 128 * l.val + c.val by omega)

/-- Reshaping sixteen words to a row reads the word of the same column. -/
theorem cast_row (v : Vec F S16 .f32) (x : S1x16.Idx) : shapeCast S1x16 v shapeCasts_S16_S1x16 x = v fun | 0 => x 1 := by
  refine (shapeCast_addUnit_apply (n := 1) ![16] v shapeCasts_S16_S1x16 x).trans (congrArg v (funext fun a => ?_))
  match a with
  | 0 => rfl

/-- The sum of sixteen loads, one a lane, of row `k`'s cells is row `k` of the lanes' sums. -/
theorem row_red (h : Vec F S2064 .f32) (k : Fin 8) (v0 v1 v2 v3 v4 v5 v6 v7 v8 v9 v10 v11 v12 v13 v14 v15 : Vec F S16 .f32)
    (hv : ∀ (l : Fin 16) (x : S16.Idx), (![v0, v1, v2, v3, v4, v5, v6, v7, v8, v9, v10, v11, v12, v13, v14, v15] l) x
      = cel h l ⟨16 * k.val + (x 0).val, by have h0 := k.isLt; have h1 : (x 0).val < 16 := (x 0).isLt; omega⟩) (x : S1x16.Idx) :
    shapeCast S1x16 (addf (addf (addf (addf (addf (addf (addf (addf (addf (addf (addf (addf (addf (addf (addf v0 v1) v2) v3) v4) v5) v6) v7) v8) v9) v10)
      v11) v12) v13) v14) v15) shapeCasts_S16_S1x16 x = redV h (at8 k (x 1)) := by
  rw [cast_row]
  have e : ∀ l, (![v0, v1, v2, v3, v4, v5, v6, v7, v8, v9, v10, v11, v12, v13, v14, v15] l) (fun | 0 => x 1) = cel h l (cellOf (at8 k (x 1))) :=
    fun l => hv l fun | 0 => x 1
  show FloatOps.addf (FloatOps.addf (FloatOps.addf (FloatOps.addf (FloatOps.addf (FloatOps.addf (FloatOps.addf (FloatOps.addf (FloatOps.addf (FloatOps.addf
    (FloatOps.addf (FloatOps.addf (FloatOps.addf (FloatOps.addf (FloatOps.addf (v0 _) (v1 _)) (v2 _)) (v3 _)) (v4 _)) (v5 _))
    (v6 _)) (v7 _)) (v8 _)) (v9 _)) (v10 _)) (v11 _)) (v12 _)) (v13 _)) (v14 _)) (v15 _) = redCell h (cellOf (at8 k (x 1)))
  unfold redCell
  rw [← e 0, ← e 1, ← e 2, ← e 3, ← e 4, ← e 5, ← e 6, ← e 7, ← e 8, ← e 9, ← e 10, ← e 11, ← e 12, ← e 13, ← e 14, ← e 15]
  rfl

/-- Each lane's load of row `k`. -/
theorem loads_cel (h : Vec F S2064 .f32) (k : Fin 8) (o0 o1 o2 o3 o4 o5 o6 o7 o8 o9 o10 o11 o12 o13 o14 o15 : ℕ)
    (i0 : ∀ a, (![o0] : Fin 1 → ℕ) a + S16.size a ≤ S2064.size a) (i1 : ∀ a, (![o1] : Fin 1 → ℕ) a + S16.size a ≤ S2064.size a)
    (i2 : ∀ a, (![o2] : Fin 1 → ℕ) a + S16.size a ≤ S2064.size a) (i3 : ∀ a, (![o3] : Fin 1 → ℕ) a + S16.size a ≤ S2064.size a)
    (i4 : ∀ a, (![o4] : Fin 1 → ℕ) a + S16.size a ≤ S2064.size a) (i5 : ∀ a, (![o5] : Fin 1 → ℕ) a + S16.size a ≤ S2064.size a)
    (i6 : ∀ a, (![o6] : Fin 1 → ℕ) a + S16.size a ≤ S2064.size a) (i7 : ∀ a, (![o7] : Fin 1 → ℕ) a + S16.size a ≤ S2064.size a)
    (i8 : ∀ a, (![o8] : Fin 1 → ℕ) a + S16.size a ≤ S2064.size a) (i9 : ∀ a, (![o9] : Fin 1 → ℕ) a + S16.size a ≤ S2064.size a)
    (i10 : ∀ a, (![o10] : Fin 1 → ℕ) a + S16.size a ≤ S2064.size a) (i11 : ∀ a, (![o11] : Fin 1 → ℕ) a + S16.size a ≤ S2064.size a)
    (i12 : ∀ a, (![o12] : Fin 1 → ℕ) a + S16.size a ≤ S2064.size a) (i13 : ∀ a, (![o13] : Fin 1 → ℕ) a + S16.size a ≤ S2064.size a)
    (i14 : ∀ a, (![o14] : Fin 1 → ℕ) a + S16.size a ≤ S2064.size a) (i15 : ∀ a, (![o15] : Fin 1 → ℕ) a + S16.size a ≤ S2064.size a)
    (ho : ∀ l : Fin 16, (![o0, o1, o2, o3, o4, o5, o6, o7, o8, o9, o10, o11, o12, o13, o14, o15] l) = 128 * l.val + 16 * k.val) (x : S1x16.Idx) :
    shapeCast S1x16 (addf (addf (addf (addf (addf (addf (addf (addf (addf (addf (addf (addf (addf (addf (addf (ldH h o0 i0) (ldH h o1 i1)) (ldH h o2 i2))
      (ldH h o3 i3)) (ldH h o4 i4)) (ldH h o5 i5)) (ldH h o6 i6)) (ldH h o7 i7)) (ldH h o8 i8)) (ldH h o9 i9)) (ldH h o10 i10))
      (ldH h o11 i11)) (ldH h o12 i12)) (ldH h o13 i13)) (ldH h o14 i14)) (ldH h o15 i15)) shapeCasts_S16_S1x16 x = redV h (at8 k (x 1)) := by
  refine row_red h k _ _ _ _ _ _ _ _ _ _ _ _ _ _ _ _ (fun l x => ?_) x
  have hl := ho l
  revert hl
  fin_cases l <;> intro hl <;> refine ldH_cel h _ _ _ _ x ?_ <;> exact (congrArg (· + (x 0).val) hl).trans (Nat.add_assoc _ _ _)

/-! ## A row of sums of four tiles -/

/-- Sixteen words of the four tiles' rows, loaded. -/
abbrev ldQ (q : Vec F S4x8x16 .f32) (n k : ℕ) (inb : ∀ a, (![n, k, 0] : Fin 3 → ℕ) a + S1x1x16.size a ≤ S4x8x16.size a) : Vec F S16 .f32 :=
  shapeCast S16 ((qM).view.readAt (Elt F) (Rect.unit (s := S4x8x16) ![n, k, 0] S1x1x16.size inb).toLoadRect q) shapeCasts_S1x1x16_S16

/-- Row `n` of four, row `k`, column `c`. -/
def at48 (n : Fin 4) (p : S8x16.Idx) : S4x8x16.Idx := fun | 0 => n | 1 => p 0 | 2 => p 1

theorem ldQ_apply (q : Vec F S4x8x16 .f32) (n k : ℕ) (inb : ∀ a, (![n, k, 0] : Fin 3 → ℕ) a + S1x1x16.size a ≤ S4x8x16.size a) (nn : Fin 4) (kk : Fin 8)
    (hn : nn.val = n) (hk : kk.val = k) (x : S16.Idx) : ldQ q n k inb x = q (at48 nn (at8 kk (x 0))) := by
  refine (shapeCast_apply (s := S1x1x16) (t := S16) _ _ x (fun | 0 => ⟨0, by decide⟩ | 1 => ⟨0, by decide⟩ | 2 => x 0) ?_).trans (congrArg q (funext fun a => ?_))
  · rw [Shape.rowMajor_val_three, Shape.rowMajor_val_one]
    show (0 * 1 + 0) * 16 + (x 0).val = (x 0).val
    omega
  · match a with
    | 0 => exact Fin.ext (show n + 1 * 0 = nn.val by omega)
    | 1 => exact Fin.ext (show k + 1 * 0 = kk.val by omega)
    | 2 => exact Fin.ext (show 0 + 1 * (x 0).val = (x 0).val by omega)

/-- Four rows' sums, as the task adds them. -/
def sumQ (q : Vec F S4x8x16 .f32) : Vec F S8x16 .f32 := fun p =>
  FloatOps.addf (FloatOps.addf (q (at48 0 p)) (q (at48 1 p))) (FloatOps.addf (q (at48 2 p)) (q (at48 3 p)))

theorem row_sum (q : Vec F S4x8x16 .f32) (k : ℕ) (kk : Fin 8) (hk : kk.val = k)
    (i0 : ∀ a, (![0, k, 0] : Fin 3 → ℕ) a + S1x1x16.size a ≤ S4x8x16.size a) (i1 : ∀ a, (![1, k, 0] : Fin 3 → ℕ) a + S1x1x16.size a ≤ S4x8x16.size a)
    (i2 : ∀ a, (![2, k, 0] : Fin 3 → ℕ) a + S1x1x16.size a ≤ S4x8x16.size a) (i3 : ∀ a, (![3, k, 0] : Fin 3 → ℕ) a + S1x1x16.size a ≤ S4x8x16.size a)
    (x : S1x16.Idx) :
    shapeCast S1x16 (addf (addf (ldQ q 0 k i0) (ldQ q 1 k i1)) (addf (ldQ q 2 k i2) (ldQ q 3 k i3))) shapeCasts_S16_S1x16 x = sumQ q (at8 kk (x 1)) := by
  rw [cast_row]
  show FloatOps.addf (FloatOps.addf (ldQ q 0 k i0 _) (ldQ q 1 k i1 _)) (FloatOps.addf (ldQ q 2 k i2 _) (ldQ q 3 k i3 _)) = _
  rw [ldQ_apply q 0 k i0 0 kk rfl hk, ldQ_apply q 1 k i1 1 kk rfl hk, ldQ_apply q 2 k i2 2 kk rfl hk, ldQ_apply q 3 k i3 3 kk rfl hk]
  rfl

/-! ## The copies -/

/-- A part held by its view's elements is known by what the view reads. -/
theorem pts_congr_read {sp : Space} {s : Shape} {e : EltTy} (c : Thread nD τ) (v : View sig c.2.kind sp s e) (f g : Buf (Elt F) (v.loc c))
    (h : ∀ y, v.read (Elt F) f y = v.read (Elt F) g y) :
    (v.loc c ↦[v.set]{fullShare} f : sProp 𝕄) = v.loc c ↦[v.set]{fullShare} g :=
  pointsTo_congr fun i hi => by
    obtain ⟨y, -, rfl⟩ := Finset.mem_map.mp hi
    have hy := h y
    rw [View.read_apply, View.read_apply] at hy
    exact (cast_inj _).mp hy

/-- The tile's number. -/
abbrev wOf (L : grid0.Coords) : Fin 32 := ⟨16 * (cV L).val + (jV L).val, by
  have h0 : (L 0).val < 2 := (L 0).isLt
  have h1 : (L 1).val < 16 := (L 1).isLt
  show 16 * (L 0).val + (L 1).val < 32
  omega⟩

/-- The copy in brings the tile's words. -/
theorem read_xRow (X : Vec F S196608 .f32) : (xRow L).view.read (Elt F) X = ptsOf X (wOf L) := by
  funext j
  refine congrArg X (funext fun a => ?_)
  match a with
  | 0 =>
    refine Fin.ext ?_
    have e : k0_off1 L 0 = 98304 * (L 0).val + 6144 * (L 1).val := congrFun (k0_off1_eq L) 0
    show k0_off1 L 0 + 1 * (j 0).val = 6144 * (16 * (L 0).val + (L 1).val) + (j 0).val
    omega

/-- The copy in fills the points' buffer. -/
theorem write_pM (b w : Vec F S6144 .f32) : (pM).view.write (Elt F) b w Finset.univ = w :=
  View.write_whole_univ cc0_scratch0 b w

/-- The copy of the four rows fills their buffer. -/
theorem write_qM (b w : Vec F S4x8x16 .f32) : (qM).view.write (Elt F) b w Finset.univ = w :=
  View.write_whole_univ cc0_scratch3 b w

/-- The tile's row of the shared buffer, where it holds every tile's counts, reads as the tile's counts. -/
theorem read_shRow (X : Vec F S196608 .f32) : (shRow L).view.read (Elt F) (shVal X) = redOf X (wOf L) := by
  funext y
  refine (shapeCast_dropUnit_apply ![8, 16] (fun z : S1x8x16.Idx => shVal X ((Rect.unit (s := S32x8x16) (k0_off3 L) S1x8x16.size (k0_off3_inb L)).emb z))
    squeezes_S1x8x16_S8x16.numel_eq y).trans ?_
  have e0 : k0_off3 L 0 = 16 * (L 0).val + (L 1).val := congrFun (k0_off3_eq L) 0
  have e1 : k0_off3 L 1 = 0 := congrFun (k0_off3_eq L) 1
  have e2 : k0_off3 L 2 = 0 := congrFun (k0_off3_eq L) 2
  refine congrArg₂ (redOf X) (Fin.ext ?_) (funext fun a => ?_)
  · show k0_off3 L 0 + 1 * 0 = 16 * (L 0).val + (L 1).val; omega
  · match a with
    | 0 => exact Fin.ext (show k0_off3 L 1 + 1 * (y 0).val = (y 0).val by omega)
    | 1 => exact Fin.ext (show k0_off3 L 2 + 1 * (y 1).val = (y 1).val by omega)

/-- The four rows a tile reads after the barrier are its cloud's four tiles' counts, so their sum is the cloud's. -/
theorem read_shFour (X : Vec F S196608 .f32) (hc : k0_cond1 L = 1#1) (r : Fin 8) (hr : r.val = 4 * (cV L).val + (jV L).val) :
    sumQ ((shFour L hc).view.read (Elt F) (shVal X)) = outRow X r := by
  have hr' : r.val = 4 * (L 0).val + (L 1).val := hr
  have e0 : k0_off4 L 0 = 16 * (L 0).val + 4 * (L 1).val := congrFun (k0_off4_eq L) 0
  have e1 : k0_off4 L 1 = 0 := congrFun (k0_off4_eq L) 1
  have e2 : k0_off4 L 2 = 0 := congrFun (k0_off4_eq L) 2
  have key : ∀ (n : Fin 4) (p : S8x16.Idx) (w : Fin 32), w.val = 4 * r.val + n.val → (shFour L hc).view.read (Elt F) (shVal X) (at48 n p) = redOf X w p := by
    intro n p w hw
    refine congrArg₂ (redOf X) (Fin.ext ?_) (funext fun a => ?_)
    · show k0_off4 L 0 + 1 * n.val = w.val; omega
    · match a with
      | 0 => exact Fin.ext (show k0_off4 L 1 + 1 * (p 0).val = (p 0).val by omega)
      | 1 => exact Fin.ext (show k0_off4 L 2 + 1 * (p 1).val = (p 1).val by omega)
  funext p
  show FloatOps.addf (FloatOps.addf _ _) (FloatOps.addf _ _) = FloatOps.addf (FloatOps.addf _ _) (FloatOps.addf _ _)
  rw [key 0 p ⟨4 * r.val, by omega⟩ rfl, key 1 p ⟨4 * r.val + 1, by omega⟩ rfl, key 2 p ⟨4 * r.val + 2, by omega⟩ rfl, key 3 p ⟨4 * r.val + 3, by omega⟩ rfl]

/-- The tile's row of the result, where it holds every cloud's counts, reads as its cloud's. -/
theorem read_oRow (X : Vec F S196608 .f32) (hc : k0_cond1 L = 1#1) (r : Fin 8) (hr : r.val = 4 * (cV L).val + (jV L).val) :
    (oRow L hc).view.read (Elt F) (outVal X) = outRow X r := by
  have hr' : r.val = 4 * (L 0).val + (L 1).val := hr
  funext y
  refine (shapeCast_dropUnit_apply ![8, 16] (fun z : S1x8x16.Idx => outVal X ((Rect.unit (s := S8x8x16) (k0_off5 L) S1x8x16.size (k0_off5_inb L hc)).emb z))
    squeezes_S1x8x16_S8x16.numel_eq y).trans ?_
  have e0 : k0_off5 L 0 = 4 * (L 0).val + (L 1).val := congrFun (k0_off5_eq L) 0
  have e1 : k0_off5 L 1 = 0 := congrFun (k0_off5_eq L) 1
  have e2 : k0_off5 L 2 = 0 := congrFun (k0_off5_eq L) 2
  refine congrArg₂ (outRow X) (Fin.ext ?_) (funext fun a => ?_)
  · show k0_off5 L 0 + 1 * 0 = r.val; omega
  · match a with
    | 0 => exact Fin.ext (show k0_off5 L 1 + 1 * (y 0).val = (y 0).val by omega)
    | 1 => exact Fin.ext (show k0_off5 L 2 + 1 * (y 1).val = (y 1).val by omega)

end Cert.Proof.Hist
-- ==== Proof.TileRun.lean ====
/-
  One tile's task run from what the launch deals it: its words of the points copied in, its histogram
  cleared and filled, its counts stored in its row of the shared buffer, the barrier, and, for the first
  four tiles of a SparseCore, the four rows of a cloud read, added and copied out.
-/
module

public import proofs.«01_k».proof.Proof.Fill

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xM" => (Memref.whole Cert.KernelIdeal.main_v0_scv : Memref Cert.KernelIdeal.sig Kind.scVector Space.hbm Cert.KernelIdeal.S196608 EltTy.f32)
local notation "oM" => (Memref.whole Cert.KernelIdeal.main_v1_scv : Memref Cert.KernelIdeal.sig Kind.scVector Space.hbm Cert.KernelIdeal.S8x8x16 EltTy.f32)
local notation "pM" => (Memref.whole Cert.KernelIdeal.cc0_scratch0 : Memref Cert.KernelIdeal.sig Kind.scVector Space.vmem Cert.KernelIdeal.S6144 EltTy.f32)
local notation "hM" => (Memref.whole Cert.KernelIdeal.cc0_scratch1 : Memref Cert.KernelIdeal.sig Kind.scVector Space.vmem Cert.KernelIdeal.S2064 EltTy.f32)
local notation "rM" => (Memref.whole Cert.KernelIdeal.cc0_scratch2 : Memref Cert.KernelIdeal.sig Kind.scVector Space.vmem Cert.KernelIdeal.S8x16 EltTy.f32)
local notation "qM" => (Memref.whole Cert.KernelIdeal.cc0_scratch3 : Memref Cert.KernelIdeal.sig Kind.scVector Space.vmem Cert.KernelIdeal.S4x8x16 EltTy.f32)
local notation "sM" => (Memref.whole Cert.KernelIdeal.cc0_scratch4 : Memref Cert.KernelIdeal.sig Kind.scVector Space.shared Cert.KernelIdeal.S32x8x16 EltTy.f32)

variable [FloatOps F]
variable (d : Dev nD) (L : grid0.Coords)

/-! ## What the task owns, named as it names it -/

omit [FloatOps F] in
/-- Each part as the task's view addresses it is the part the launch deals. -/
theorem pts_xRow (f : Buf (Elt F) (xLoc d)) :
    ((xRow L).view.loc (thr d L) ↦[(xRow L).view.set]{fullShare} f : sProp 𝕄) = xLoc d ↦[xSet (16 * (cV L).val + (jV L).val)]{fullShare} f := by
  rw [set_xRow]
omit [FloatOps F] in
theorem pts_shRow (f : Buf (Elt F) (shLoc d (cV L))) :
    ((shRow L).view.loc (thr d L) ↦[(shRow L).view.set]{fullShare} f : sProp 𝕄) = shPart d (cV L) (shSet (16 * (cV L).val + (jV L).val)) f := by
  rw [set_shRow]; rfl
omit [FloatOps F] in
theorem pts_shFour (hc : k0_cond1 L = 1#1) (f : Buf (Elt F) (shLoc d (cV L))) :
    ((shFour L hc).view.loc (thr d L) ↦[(shFour L hc).view.set]{fullShare} f : sProp 𝕄) = shPart d (cV L) (readSet (cV L).val (jV L).val) f := by
  rw [set_shFour]; rfl
omit [FloatOps F] in
theorem pts_oRow (hc : k0_cond1 L = 1#1) (f : Buf (Elt F) (oLoc d)) :
    ((oRow L hc).view.loc (thr d L) ↦[(oRow L hc).view.set]{fullShare} f : sProp 𝕄) = oPart d (cV L).val (jV L).val f := by
  rw [set_oRow]

/-- The semaphores of the task's four copies. -/
abbrev cellA : GSem nD τ sig := (thr d L, .dma cc0_scoped0.sem)
abbrev cellB : GSem nD τ sig := (thr d L, .dma cc0_scoped1.sem)
abbrev cellC : GSem nD τ sig := (thr d L, .dma cc0_scoped2.sem)
abbrev cellD : GSem nD τ sig := (thr d L, .dma cc0_scoped3.sem)

/-- The buffers of the eight rows and of the four tiles' rows, held whole. -/
abbrev rAt (g : Vec F S8x16 .f32) : sProp 𝕄 := (rM).view.loc (thr d L) ↦{fullShare} (g : Buf (Elt F) ((rM).view.loc (thr d L)))
abbrev qAt (g : Vec F S4x8x16 .f32) : sProp 𝕄 := (qM).view.loc (thr d L) ↦{fullShare} (g : Buf (Elt F) ((qM).view.loc (thr d L)))

/-- The first loop's invariant: the words before step `k`'s are cleared. -/
def invC (k : Nat) (_ : PUnit) : sProp 𝕄 := iprop(∃ g : Vec F S2064 .f32, ⌜∀ j : S2064.Idx, (j 0).val < 16 * k → g j = z0⌝ ∗ hAt d L g)
/-- The second's: the histogram after `k` steps. -/
def invH (f : Vec F S6144 .f32) (h : Vec F S2064 .f32) (k : Nat) (_ : PUnit) : sProp 𝕄 := iprop(pAt d L f ∗ hAt d L (histAt f h k))

omit [FloatOps F] in
theorem ownSems0_V :
    (ownSems0 (thr d L) : sProp 𝕄)
      = iprop(semVal (cellA d L) 0 ∗ semVal (cellB d L) 0 ∗ semVal (cellC d L) 0 ∗ semVal (cellD d L) 0
          ∗ bigSep (((((ownCells (thr d L)).erase (cellA d L)).erase (cellB d L)).erase (cellC d L)).erase (cellD d L)) fun g => semVal g 0) := by
  have hne : ∀ {a b : SemLoc sig}, a ≠ b → ((thr d L, a) : GSem nD τ sig) ≠ (thr d L, b) := fun h e => h (Prod.mk.inj e).2
  have hA : cellA d L ∈ ownCells (thr d L) := mem_ownCells.mpr ⟨rfl, by show (SemLoc.dma cc0_scoped0.sem : SemLoc sig).isScoped .scVector = true; decide⟩
  have hB : cellB d L ∈ (ownCells (thr d L)).erase (cellA d L) := Finset.mem_erase.mpr
    ⟨hne (by decide), mem_ownCells.mpr ⟨rfl, by show (SemLoc.dma cc0_scoped1.sem : SemLoc sig).isScoped .scVector = true; decide⟩⟩
  have hC : cellC d L ∈ ((ownCells (thr d L)).erase (cellA d L)).erase (cellB d L) := Finset.mem_erase.mpr
    ⟨hne (by decide), Finset.mem_erase.mpr ⟨hne (by decide), mem_ownCells.mpr ⟨rfl, by show (SemLoc.dma cc0_scoped2.sem : SemLoc sig).isScoped .scVector = true; decide⟩⟩⟩
  have hD : cellD d L ∈ (((ownCells (thr d L)).erase (cellA d L)).erase (cellB d L)).erase (cellC d L) := Finset.mem_erase.mpr
    ⟨hne (by decide), Finset.mem_erase.mpr ⟨hne (by decide), Finset.mem_erase.mpr ⟨hne (by decide),
      mem_ownCells.mpr ⟨rfl, by show (SemLoc.dma cc0_scoped3.sem : SemLoc sig).isScoped .scVector = true; decide⟩⟩⟩⟩
  unfold SparseCore.Cfg.ownSems0
  rw [SparseCore.bigSep_erase' hA, SparseCore.bigSep_erase' hB, SparseCore.bigSep_erase' hC, SparseCore.bigSep_erase' hD]

/-- The tile's own buffers but the four the task works in. -/
abbrev restBufs (L : grid0.Coords) : Finset (DevRef τ sig) :=
  ((((ownRefs (τ := τ) (.scVector (cV L) (jV L))).erase ((Proc.scVector (cV L) (jV L)).devRef cc0_scratch0)).erase ((Proc.scVector (cV L) (jV L)).devRef cc0_scratch1)).erase
    ((Proc.scVector (cV L) (jV L)).devRef cc0_scratch2)).erase ((Proc.scVector (cV L) (jV L)).devRef cc0_scratch3)

omit [FloatOps F] in
theorem ownBufs_V :
    (ownBufs (thr d L) : sProp 𝕄)
      = iprop((∃ f, pAt d L f) ∗ (∃ f, hAt d L f) ∗ (∃ f, rAt d L f) ∗ (∃ f, qAt d L f) ∗ bigSep (restBufs L) fun b => iprop(∃ f, ((d, b) : Loc nD τ sig) ↦{fullShare} f)) := by
  have h0 : (Proc.scVector (cV L) (jV L)).devRef cc0_scratch0 ∈ ownRefs (τ := τ) (sig := sig) (.scVector (cV L) (jV L)) := SparseCore.Cfg.mem_ownRefs_of_owner rfl
  have h1 : (Proc.scVector (cV L) (jV L)).devRef cc0_scratch1 ∈ ownRefs (τ := τ) (sig := sig) (.scVector (cV L) (jV L)) := SparseCore.Cfg.mem_ownRefs_of_owner rfl
  have h2 : (Proc.scVector (cV L) (jV L)).devRef cc0_scratch2 ∈ ownRefs (τ := τ) (sig := sig) (.scVector (cV L) (jV L)) := SparseCore.Cfg.mem_ownRefs_of_owner rfl
  have h3 : (Proc.scVector (cV L) (jV L)).devRef cc0_scratch3 ∈ ownRefs (τ := τ) (sig := sig) (.scVector (cV L) (jV L)) := SparseCore.Cfg.mem_ownRefs_of_owner rfl
  have hne : ∀ {a b : Ref sig .scVector}, a ≠ b → (Proc.scVector (cV L) (jV L)).devRef a ≠ (Proc.scVector (cV L) (jV L)).devRef b := fun h e => h (Proc.devRef_injective _ e)
  unfold SparseCore.Cfg.ownBufs restBufs
  refine (SparseCore.bigSep_erase' h0).trans (congrArg _ ((SparseCore.bigSep_erase' (Finset.mem_erase.mpr ⟨hne (by decide), h1⟩)).trans (congrArg _
    ((SparseCore.bigSep_erase' (Finset.mem_erase.mpr ⟨hne (by decide), Finset.mem_erase.mpr ⟨hne (by decide), h2⟩⟩)).trans (congrArg _
      (SparseCore.bigSep_erase' (Finset.mem_erase.mpr ⟨hne (by decide), Finset.mem_erase.mpr ⟨hne (by decide), Finset.mem_erase.mpr ⟨hne (by decide), h3⟩⟩⟩)))))))

/-- The tile's task, from its share of the arrays and of the barrier, ends with its row of the result holding its cloud's counts. -/
theorem tile_body (m : (ℓ : Loc nD τ sig) → Buf (Elt F) ℓ) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ given m d (cV L) (jV L)
        ∗ scopedBufs (thr d L) ∗ scopedSems0 (thr d L) ∗ owes (thr d L) (O + oxV d (cV L)) W)
      ⊢ wp frame (wpE (defs₀ (F := F)) 𝒱₀ (thr d L) none) Set.univ
          (cc0__sc_body (F := F) L xM (Memref.isWhole_whole _) oM (Memref.isWhole_whole _) pM (Memref.isWhole_whole _) hM (Memref.isWhole_whole _)
            rM (Memref.isWhole_whole _) qM (Memref.isWhole_whole _) sM (Memref.isWhole_whole _) cc0_scoped0 cc0_scoped1 cc0_scoped2 cc0_scoped3)
          fun _ => iprop((back m d (cV L) (jV L) ∗ semVal (bcell d (cV L) (jV L)) 0)
            ∗ scopedBufs (thr d L) ∗ scopedSems0 (thr d L)
            ∗ ∃ W', ⌜∀ p ∈ W', p ∈ W ∨ p.2 = none ∨ p.2 = some (0 : Fin 1)⌝ ∗ owes (thr d L) O W') := by
  rw [cc0__sc_body_eq_skeleton]; unfold cc0__sc_body_skel
  rw [k0_part8_eq_skeleton, k0_part9_eq_skeleton, k0_part10_eq_skeleton, k0_part11_eq_skeleton, k0_part12_eq_skeleton, k0_part13_eq_skeleton,
    k0_part14_eq_skeleton, k0_part15_eq_skeleton, k0_part3_eq_skeleton, k0_part4_eq_skeleton, k0_part5_eq_skeleton, k0_part6_eq_skeleton, k0_part7_eq_skeleton]
  unfold k0_part8_skel k0_part9_skel k0_part10_skel k0_part11_skel k0_part12_skel k0_part13_skel k0_part14_skel k0_part15_skel
    k0_part3_skel k0_part4_skel k0_part5_skel k0_part6_skel k0_part7_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hx, Ho, %s0, Hs⟩, ⟨⟨%f0, Hp⟩, ⟨%g0, Hh⟩, ⟨%r0, Hr⟩, ⟨%q0, Hq⟩, Hbufs⟩, ⟨HA, HB, HC, HD, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  ihave Hx := (Entails.of_eq (pts_xRow (F := F) d L _).symm) $$ Hx
  ihave Hs := (Entails.of_eq (pts_shRow (F := F) d L _).symm) $$ Hs
  sl_exec
  rw [bind_assoc]
  sl_for (invC d L) $$ [Hh]
  case region =>
    intro k _
    unfold invC
    iintro ⟨%g, %hg, Hh⟩
    iapply (clear_step d L k g hg); iexact Hh
  · unfold invC
    iexists g0; isplitr
    · ipureintro; intro j hj; exact absurd hj (by omega)
    · iexact Hh
  iintro %_ HI
  unfold invC
  icases HI with ⟨%g, %hg, Hh⟩
  have eP : ∀ b : Vec F S6144 .f32, (pM).view.write (Elt F) b (tile_body.sl.dma0 d L m) Finset.univ = ptsOf (Xv m d) (wOf L) := fun b =>
(write_pM b _).trans ((ReadAs.apply_same _).trans (read_xRow L (Xv m d)))
  ihave Hp := (show _ ⊢ pAt d L (ptsOf (Xv m d) (wOf L)) from Entails.of_eq (congrArg (pAt d L) (eP f0))) $$ Hp
  unfold tile_body.sl.prog.cont_1
  rw [bind_assoc]
  sl_for (invH d L (ptsOf (Xv m d) (wOf L)) g) $$ [Hp Hh]
  case region =>
    intro k _
    unfold invH
    iintro ⟨Hp, Hh⟩
    iapply (count_step d L k _ g)
    isplitl [Hp]; · iexact Hp
    iexact Hh
  · unfold invH
    isplitl [Hp]; · iexact Hp
    iexact Hh
  iintro %_ HI
  unfold invH
  icases HI with ⟨Hp, Hh⟩
  have hg' : ∀ j : S2064.Idx, (j 0).val < 2048 → g j = z0 := fun j hj => hg j (by
    have e : Scf.trips k0_t1_loop.lb k0_t1_loop.ub k0_t1_loop.st = 128 := trips1
    rw [e]; exact hj)
  have hred : redV (histAt (ptsOf (Xv m d) (wOf L)) g (Scf.trips k0_t2_loop.lb k0_t2_loop.ub k0_t2_loop.st)) = redOf (Xv m d) (wOf L) := redV_histAt _ _ hg' _
  revert hred
  generalize histAt (ptsOf (Xv m d) (wOf L)) g (Scf.trips k0_t2_loop.lb k0_t2_loop.ub k0_t2_loop.st) = h
  intro hred
  sl_exec
  have eR : tile_body.sl.dma144 r0 h = redV h := fill8 r0 (redV h) _ _ _ _ _ _ _ _
    (loads_cel h 0 _ _ _ _ _ _ _ _ _ _ _ _ _ _ _ _ _ _ _ _ _ _ _ _ _ _ _ _ _ _ _ _ (by decide))
    (loads_cel h 1 _ _ _ _ _ _ _ _ _ _ _ _ _ _ _ _ _ _ _ _ _ _ _ _ _ _ _ _ _ _ _ _ (by decide))
    (loads_cel h 2 _ _ _ _ _ _ _ _ _ _ _ _ _ _ _ _ _ _ _ _ _ _ _ _ _ _ _ _ _ _ _ _ (by decide))
    (loads_cel h 3 _ _ _ _ _ _ _ _ _ _ _ _ _ _ _ _ _ _ _ _ _ _ _ _ _ _ _ _ _ _ _ _ (by decide))
    (loads_cel h 4 _ _ _ _ _ _ _ _ _ _ _ _ _ _ _ _ _ _ _ _ _ _ _ _ _ _ _ _ _ _ _ _ (by decide))
    (loads_cel h 5 _ _ _ _ _ _ _ _ _ _ _ _ _ _ _ _ _ _ _ _ _ _ _ _ _ _ _ _ _ _ _ _ (by decide))
    (loads_cel h 6 _ _ _ _ _ _ _ _ _ _ _ _ _ _ _ _ _ _ _ _ _ _ _ _ _ _ _ _ _ _ _ _ (by decide))
    (loads_cel h 7 _ _ _ _ _ _ _ _ _ _ _ _ _ _ _ _ _ _ _ _ _ _ _ _ _ _ _ _ _ _ _ _ (by decide))
  rw [eR, hred]
  have eS : ∀ y, (shRow L).view.read (Elt F) ((shRow L).view.writes (Elt F) s0 [⟨Rect.whole S8x16, redOf (Xv m d) (wOf L)⟩]) y
      = (shRow L).view.read (Elt F) (shVal (Xv m d)) y := fun y => by rw [View.read_writes_whole, read_shRow]
  ihave Hs := (show _ ⊢ shPart d (cV L) (shSet (16 * (cV L).val + (jV L).val)) (shV m d (cV L)) from
    Entails.of_eq ((pts_congr_read (thr d L) (shRow L).view _ (shV m d (cV L)) eS).trans (pts_shRow (F := F) d L _))) $$ Hs
  -- the barrier: the row handed over, the four rows to read received
  ihave Hpays := (pays_intro (F := F) m d (cV L) (jV L)) $$ Hs
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd (F := F) m) (g := bcell d (cV L) (jV L)) (Set.mem_univ (κ _)) (fun h => h) (bRd_duties_succ m _)) $$ [Hat] with Hbar
  · isplitr
    · iapply (SparseCore.ent (bigSep_elim (Φ := fun j : Fin (grid0.bound 1) =>
        (cellInv EB (bRd (F := F) m) (κ (bcell d (cV L) (j.castLE hsub0))) (bcell d (cV L) (j.castLE hsub0)) : sProp 𝕄)) (Finset.mem_univ (L 1)))); iexact Hinv
    · iexact Hat
  ihave Hn := (pays_elim (F := F) m d (cV L) (jV L)) $$ Hgot
  ihave Hr := (show _ ⊢ iprop(∃ r, rAt d L r) from by iintro H; iexists _; iexact H) $$ Hr
  icases Hr with ⟨%r1, Hr⟩
  by_cases hc : k0_cond1 L = 1#1
  · have hj : (L 1).val < 4 := (cond_iff L).mp hc
    have h0 : (L 0).val < 2 := (L 0).isLt
    rw [dif_pos hc]
    ihave Hn := (Entails.of_eq (pts_shFour (F := F) d L hc _).symm) $$ Hn
    ihave Ho := (Entails.of_eq (pts_oRow (F := F) d L hc _).symm) $$ Ho
    sl_exec
    have h8 : 4 * (cV L).val + (jV L).val < 8 := by show 4 * (L 0).val + (L 1).val < 8; omega
    have eQ : sumQ ((qM).view.write (Elt F) q0 (tile_body.sl.dma0_1 d L m hc) Finset.univ) = outRow (Xv m d) ⟨4 * (cV L).val + (jV L).val, h8⟩ :=
      (congrArg sumQ (write_qM q0 _)).trans (read_shFour L (Xv m d) hc _ rfl)
    have eR2 : tile_body.sl.dma48 d L m q0 r1 hc = sumQ ((qM).view.write (Elt F) q0 (tile_body.sl.dma0_1 d L m hc) Finset.univ) :=
      fill8 r1 (sumQ ((qM).view.write (Elt F) q0 (tile_body.sl.dma0_1 d L m hc) Finset.univ)) _ _ _ _ _ _ _ _
        (row_sum _ 0 0 rfl _ _ _ _) (row_sum _ 1 1 rfl _ _ _ _) (row_sum _ 2 2 rfl _ _ _ _) (row_sum _ 3 3 rfl _ _ _ _)
        (row_sum _ 4 4 rfl _ _ _ _) (row_sum _ 5 5 rfl _ _ _ _) (row_sum _ 6 6 rfl _ _ _ _) (row_sum _ 7 7 rfl _ _ _ _)
    rw [eR2, eQ]
    have eO : ∀ (r : Fin 8) (_ : r.val = 4 * (cV L).val + (jV L).val) (y : S8x16.Idx),
        (oRow L hc).view.read (Elt F) ((oRow L hc).view.writes (Elt F) (m (oLoc d)) [⟨Rect.whole S8x16, outRow (Xv m d) r⟩]) y
          = (oRow L hc).view.read (Elt F) (outVal (Xv m d)) y := fun r hr y => by rw [View.read_writes_whole, read_oRow L (Xv m d) hc r hr]
    sl_step
    isplitl [Hx Ho Hn Hbar]
    · isplitr [Hbar]; swap; · iexact Hbar
      isplitl [Hx]; · iapply (Entails.of_eq (pts_xRow (F := F) d L _)); iexact Hx
      isplitl [Ho]
      · iapply (Entails.of_eq ((pts_congr_read (thr d L) (oRow L hc).view _ (oV m d) (eO ⟨_, h8⟩ rfl)).trans (pts_oRow (F := F) d L hc _)))
        iexact Ho
      iapply (Entails.of_eq (pts_shFour (F := F) d L hc _)); iexact Hn
    isplitl [Hp Hh Hr Hq Hbufs]
    · isplitl [Hp]; · iexists _; iexact Hp
      isplitl [Hh]; · iexists _; iexact Hh
      isplitl [Hr]; · iexists _; iexact Hr
      isplitl [Hq]; · iexists _; iexact Hq
      iexact Hbufs
    isplitl [HA HB HC HD Hsems]
    · isplitl [HA]; · iexact HA
      isplitl [HB]; · iexact HB
      isplitl [HC]; · iexact HC
      isplitl [HD]; · iexact HD
      iexact Hsems
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    exact .inl hp
  · have hj : ¬ (jV L).val < 4 := fun h => hc ((cond_iff L).mpr h)
    rw [dif_neg hc]
    sl_step
    isplitl [Hx Ho Hn Hbar]
    · isplitr [Hbar]; swap; · iexact Hbar
      isplitl [Hx]; · iapply (Entails.of_eq (pts_xRow (F := F) d L _)); iexact Hx
      isplitl [Ho]
      · iapply (Entails.of_eq (show oPart d (cV L).val (jV L).val (m (oLoc d)) = oPart d (cV L).val (jV L).val (oV m d) from
          pointsTo_congr fun i hi => absurd hi (by rw [oSet_empty _ _ hj]; exact Finset.notMem_empty i)))
        iexact Ho
      iexact Hn
    isplitl [Hp Hh Hr Hq Hbufs]
    · isplitl [Hp]; · iexists _; iexact Hp
      isplitl [Hh]; · iexists _; iexact Hh
      isplitl [Hr]; · iexists _; iexact Hr
      isplitl [Hq]; · iexists _; iexact Hq
      iexact Hbufs
    isplitl [HA HB HC HD Hsems]
    · isplitl [HA]; · iexact HA
      isplitl [HB]; · iexact HB
      isplitl [HC]; · iexact HC
      isplitl [HD]; · iexact HD
      iexact Hsems
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    exact .inl hp

end Cert.Proof.Hist
-- ==== Proof.Deal.lean ====
/-
  The launch's dealing: out of the ghost state and the free semaphores, every tile gets its share of the
  barrier.
-/
module

public import proofs.«01_k».proof.Proof.Launch

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]
variable (m : (ℓ : Loc nD τ sig) → Buf (Elt F) ℓ) (ρ : Dev nD → PrngReg)

/-! ## The barrier cells and their tokens -/

/-- A tile, by device, SparseCore and place. -/
abbrev Tile : Type := Dev nD × Fin τ.nSC × Fin τ.nSub
abbrev cellAt (x : Tile) : GSem nD τ sig := bcell x.1 x.2.1 x.2.2

/-- Every tile's barrier cell, and each tile's token in each cell of its SparseCore. -/
def bCells : Finset (GSem nD τ sig) := (Finset.univ : Finset Tile).image cellAt
def bToks : Finset (GSem nD τ sig × ℕ × ℕ) :=
  ((Finset.univ : Finset Tile) ×ˢ Finset.univ).image fun x : Tile × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem cellAt_injective : Function.Injective (cellAt : Tile → GSem nD τ sig) := by
  rintro ⟨d, c, i⟩ ⟨d', c', i'⟩ e
  obtain ⟨rfl, h⟩ := Prod.mk.inj (Prod.mk.inj e).1
  obtain ⟨rfl, rfl⟩ := Proc.scVector.inj h
  rfl

omit [FloatOps F] in
theorem cells_eq (Φ : GSem nD τ sig → sProp 𝕄) : bigSep bCells Φ = bigSep Finset.univ fun x : Tile => Φ (cellAt x) := by
  unfold bCells; exact SparseCore.bigSep_image_of_injOn (fun _ _ _ _ e => cellAt_injective e) Φ

omit [FloatOps F] in
theorem toks_eq : (bigSep bToks fun x => (dutyTok EB x.1 x.2.1 x.2.2 : sProp 𝕄))
    = bigSep Finset.univ fun x : Tile => bigSep Finset.univ fun j : Fin (grid0.bound 1) => dutyTok EB (bcell x.1 x.2.1 (j.castLE hsub0)) 0 x.2.2.val := by
  unfold bToks
  rw [SparseCore.bigSep_image_of_injOn, SparseCore.bigSep_product]
  rintro ⟨⟨d, c, i⟩, j⟩ - ⟨⟨d', c', i'⟩, j'⟩ - e
  obtain ⟨e1, e2⟩ := Prod.mk.inj e
  obtain ⟨rfl, h⟩ := Prod.mk.inj (Prod.mk.inj e1).1
  obtain ⟨rfl, hj⟩ := Proc.scVector.inj h
  obtain rfl : j = j' := Fin.ext (congrArg Fin.val hj)
  obtain rfl : i = i' := Fin.ext (Prod.mk.inj e2).2
  rfl

omit [FloatOps F] in
/-- The certificate's ghost state is the handshakes' and the barrier's. -/
theorem ghost_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The barrier semaphores, at zero, are among the free ones. -/
theorem free_cells : ((K (F := F)).freeOn (· ∈ bCells) : sProp 𝕄) ⊢ bigSep bCells fun g => semVal g 0 := by
  rw [cells_eq]
  unfold SparseCore.Cfg.freeOn
  refine sep_elim_right.trans (bigSep_mono fun x _ => ?_)
  refine bigSep_elim (Φ := fun sm : SemLoc sig => (semVal (V x.1 x.2.1 x.2.2, sm) 0 : sProp 𝕄)) (Finset.mem_filter.mpr ⟨Finset.mem_erase.mpr ⟨?_, ?_⟩, ?_⟩)
  · exact fun h => sc_bar0_ne_go (SemLoc.reg.inj h)
  · exact Finset.mem_filter.mpr ⟨Finset.mem_univ _, by decide⟩
  · exact Finset.mem_image_of_mem cellAt (Finset.mem_univ x)

/-- Every cell's invariant, allocated from its counter and its round. -/
theorem alloc_cells : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
/-- `n` units of one tally are one tally of `n`. -/
theorem tally_units (g : GSem nD τ sig) (ι : HIx 1) (n : ℕ) : ∑ _ : Fin n, tallyAt g ι 1 = (tallyAt g ι n : CellTallies nD τ sig (HIx 1)) := by
  induction n with
  | zero => rw [tallyAt_zero]; exact Finset.sum_eq_zero fun i _ => i.elim0
  | succ n ih => rw [Fin.sum_univ_castSucc, ih, tallyAt_add]

/-- What the tiles owe one another, read from the owed side: to each tile sixteen units at its own cell. -/
theorem credits : ((P (F := F) m).oxCred : sProp 𝕄) ⊢ bigSep Finset.univ fun x : Tile => cred (tallyAt (cellAt x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun x : Tile => (cred (tallyAt (cellAt x) (some 0) (grid0.bound 1)) : sProp 𝕄))]
  refine bigSep_mono fun d _ => ?_
  rw [bigSep_univ_prod, bigSep_univ_prod (fun ci : Fin τ.nSC × Fin τ.nSub => (cred (tallyAt (cellAt (d, ci)) (some 0) (grid0.bound 1)) : sProp 𝕄))]
  refine bigSep_mono fun c _ => ?_
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  dsimp only
  simp only [hox]
  unfold oxV
  rw [SparseCore.Cfg.cred_finsum, bigSep_univ_comm]
  refine bigSep_mono fun j _ => ?_
  rw [← SparseCore.Cfg.cred_finsum, tally_units]; rfl

omit [FloatOps F] in
/-- Beside a product, what may be used again and again goes to every factor. -/
theorem bigSep_with {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · iapply (h a (Finset.mem_insert_self _ _))
      isplitr; · iexact HR
      iexact Ha
    iapply (ih fun i hi => h i (Finset.mem_insert_of_mem hi))
    isplitr; · iexact HR
    iexact Hs

omit [FloatOps F] in
/-- So what may be used again yields a product each factor of which it yields. -/
theorem bigSep_of {I : Type} [DecidableEq I] {R : sProp 𝕄} [BI.Persistent R] {s : Finset I} {Ψ : I → sProp 𝕄} (h : ∀ i ∈ s, R ⊢ Ψ i) : R ⊢ bigSep s Ψ := by
  iintro #HR
  iapply (bigSep_with (R := R) (s := s) (Φ := fun _ => iprop(emp)) (Ψ := Ψ) fun i hi => sep_elim_left.trans (h i hi))
  isplitr; · iexact HR
  rw [bigSep_emp']; iempintro

/-! ## The shares -/

/-- Common to all tiles. -/
abbrev common : sProp 𝕄 :=
  iprop((∃ κ : GSem nD τ sig → ℕ, bigSep Finset.univ fun x : Tile => cellInv EB (bRd (F := F) m) (κ (cellAt x)) (cellAt x))
    ∗ bigSep Finset.univ fun x : Tile => reached EB (cellAt x) 0)
/-- One tile's own. -/
abbrev own1 (x : Tile) : sProp 𝕄 :=
  iprop(atPos EB (cellAt x) 0 ∅ 0
    ∗ (bigSep Finset.univ fun j : Fin (grid0.bound 1) => dutyTok EB (bcell x.1 x.2.1 (j.castLE hsub0)) 0 x.2.2.val)
    ∗ cred (tallyAt (cellAt x) (some 0) (grid0.bound 1)))

theorem kit_of (x : Tile) : iprop(common (F := F) m ∗ own1 x) ⊢ (bkit (F := F) m x.1 x.2.1 x.2.2 : sProp 𝕄) := by
  obtain ⟨d, c, i⟩ := x
  iintro ⟨⟨⟨%κ, #Hinv⟩, #Hr⟩, Hat, Htok, Hcred⟩
  unfold bkit
  isplitr
  · iexists κ
    iapply (SparseCore.ent (bigSep_of (R := bigSep Finset.univ fun x : Tile => cellInv EB (bRd (F := F) m) (κ (cellAt x)) (cellAt x)) fun (j : Fin (grid0.bound 1)) _ =>
      bigSep_elim (Φ := fun x : Tile => (cellInv EB (bRd (F := F) m) (κ (cellAt x)) (cellAt x) : sProp 𝕄)) (Finset.mem_univ ((d, c, Fin.castLE hsub0 j) : Tile))))
    iexact Hinv
  isplitl [Htok]; · iexact Htok
  isplitr
  · iapply (SparseCore.ent (bigSep_of (R := bigSep Finset.univ fun x : Tile => reached EB (cellAt x) 0) fun (j : Fin (grid0.bound 1)) _ =>
      bigSep_elim (Φ := fun x : Tile => (reached EB (cellAt x) 0 : sProp 𝕄)) (Finset.mem_univ ((d, c, Fin.castLE hsub0 j) : Tile))))
    iexact Hr
  isplitl [Hat]; · iexact Hat
  iexact Hcred

theorem share_T (d : Dev nD) : (bigSep Finset.univ fun q : Fin 1 => (P (F := F) m).x q (SparseCore.T d)) = iprop(emp) := bigSep_univ_of_subsingleton (0 : Fin 1)
theorem share_S (d : Dev nD) (c : Fin τ.nSC) : (bigSep Finset.univ fun q : Fin 1 => (P (F := F) m).x q (S d c)) = iprop(emp) := bigSep_univ_of_subsingleton (0 : Fin 1)
theorem share_V (d : Dev nD) (c : Fin τ.nSC) (i : Fin τ.nSub) : (bigSep Finset.univ fun q : Fin 1 => (P (F := F) m).x q (V d c i)) = bkit m d c i :=
  bigSep_univ_of_subsingleton (0 : Fin 1)

theorem deal :
    iprop(common (F := F) m ∗ (bigSep Finset.univ fun x : Tile => atPos EB (cellAt x) 0 ∅ 0)
        ∗ (bigSep Finset.univ fun x : Tile => bigSep Finset.univ fun j : Fin (grid0.bound 1) => dutyTok EB (bcell x.1 x.2.1 (j.castLE hsub0)) 0 x.2.2.val)
        ∗ (bigSep Finset.univ fun x : Tile => cred (tallyAt (cellAt x) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [share_T, share_S, share_V, bigSep_emp']
  iintro ⟨#Hc, Hat, Htok, Hcred⟩
  isplitr; · iempintro
  isplitr; · iempintro
  iapply (bigSep_with (R := common (F := F) m) (Φ := own1 (F := F)) fun x _ => kit_of (F := F) m x)
  isplitr; · iexact Hc
  rw [bigSep_sep', bigSep_sep']
  isplitl [Hat]; · iexact Hat
  isplitl [Htok]; · iexact Htok
  iexact Hcred

/-- From the launch's ghost state, what every tile owes and the free semaphores: the handshakes' part and every tile's share. -/
theorem launch : iprop(ownU (u₀ (F := F)) ∗ (P (F := F) m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ghost_split _ _) $$ Hu
  icases H with ⟨HH, HB⟩
  imod (Rounds.fund EB (bRd (F := F) m) bCells bToks) $$ HB with ⟨Hst, #Hr, Hat, Htok⟩
  ihave Hsems := (free_cells (F := F)) $$ Hfree
  imod (alloc_cells (F := F) m) $$ [Hsems Hst] with ⟨%κ, #Hinv⟩
  · isplitl [Hsems] <;> iassumption
  ihave Hcred := (credits m) $$ Hcred
  ihave Hinv := (Entails.of_eq (cells_eq (F := F) fun g => cellInv EB (bRd (F := F) m) (κ g) g)) $$ Hinv
  ihave Hr := (Entails.of_eq (cells_eq (F := F) fun g => reached EB g 0)) $$ Hr
  ihave Hat := (Entails.of_eq (cells_eq (F := F) fun g => atPos EB g 0 ∅ 0)) $$ Hat
  ihave Htok := (Entails.of_eq (toks_eq (F := F))) $$ Htok
  imodintro
  isplitl [HH]; · iexact HH
  isplitr; · rw [bigSep_emp']; iempintro
  iapply (deal m)
  isplitr
  · isplitl; · iexists κ; iexact Hinv
    iexact Hr
  isplitl [Hat]; · iexact Hat
  isplitl [Htok]; · iexact Htok
  iexact Hcred

end Cert.Proof.Hist
-- ==== Proof.Core.lean ====
/-
  A SparseCore's work: its share of the arrays split over its sixteen tiles and joined again, and each
  tile's task met by the run of `tile_body`.
-/
module

public import proofs.«01_k».proof.Proof.TileRun
public import proofs.«01_k».proof.Proof.Deal

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]
variable (m : (ℓ : Loc nD τ sig) → Buf (Elt F) ℓ) (ρ : Dev nD → PrngReg)

/-! ## A tile's task -/

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v0_scv) (Memref.isWhole_whole _) (Memref.whole main_v1_scv) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) cc0_scoped0 cc0_scoped1 cc0_scoped2 cc0_scoped3) ⟨⟩ c s := rfl

set_option maxRecDepth 16384 in
theorem tileObl (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) m hF O W hO hOlev

/-! ## The arrays over the tiles -/

theorem xSets_disj (c : ℕ) : ∀ i ∈ (Finset.univ : Finset (Fin 16)), ∀ j ∈ (Finset.univ : Finset (Fin 16)), i ≠ j → Disjoint (xSet (16 * c + i.val)) (xSet (16 * c + j.val)) :=
  fun i _ j _ h => Finset.disjoint_left.mpr fun p hp hq => h (Fin.ext (by
    have h1 := (Finset.mem_filter.mp hp).2; have h2 := (Finset.mem_filter.mp hq).2; omega))
theorem xSets_cover (c : ℕ) : (Finset.univ : Finset (Fin 16)).biUnion (fun i => xSet (16 * c + i.val)) = xCore c := by
  ext p
  simp only [Finset.mem_biUnion, xSet, xCore, Finset.mem_filter, Finset.mem_univ, true_and]
  constructor
  · rintro ⟨i, h⟩; have := i.isLt; omega
  · intro h; exact ⟨⟨(p 0).val / 6144 - 16 * c, by omega⟩, by show (p 0).val / 6144 = 16 * c + ((p 0).val / 6144 - 16 * c); omega⟩

theorem oSets_disj (c : ℕ) : ∀ i ∈ (Finset.univ : Finset (Fin 16)), ∀ j ∈ (Finset.univ : Finset (Fin 16)), i ≠ j → Disjoint (oSet c i.val) (oSet c j.val) :=
  fun i _ j _ h => Finset.disjoint_left.mpr fun p hp hq => h (Fin.ext (by
    have h1 := (Finset.mem_filter.mp hp).2; have h2 := (Finset.mem_filter.mp hq).2; omega))
theorem oSets_cover (c : ℕ) : (Finset.univ : Finset (Fin 16)).biUnion (fun i => oSet c i.val) = oCore c := by
  ext p
  simp only [Finset.mem_biUnion, oSet, oCore, Finset.mem_filter, Finset.mem_univ, true_and]
  constructor
  · rintro ⟨i, h⟩; omega
  · intro h; exact ⟨⟨(p 0).val - 4 * c, by omega⟩, by show (p 0).val = 4 * c + ((p 0).val - 4 * c) ∧ (p 0).val - 4 * c < 4; omega⟩

theorem shSets_disj (c : ℕ) : ∀ i ∈ (Finset.univ : Finset (Fin 16)), ∀ j ∈ (Finset.univ : Finset (Fin 16)), i ≠ j → Disjoint (shSet (16 * c + i.val)) (shSet (16 * c + j.val)) :=
  fun i _ j _ h => Finset.disjoint_left.mpr fun p hp hq => h (Fin.ext (by
    have h1 := (Finset.mem_filter.mp hp).2; have h2 := (Finset.mem_filter.mp hq).2; omega))
theorem shSets_cover (c : ℕ) : (Finset.univ : Finset (Fin 16)).biUnion (fun i => shSet (16 * c + i.val)) = shCore c := by
  ext p
  simp only [Finset.mem_biUnion, shSet, shCore, Finset.mem_filter, Finset.mem_univ, true_and]
  constructor
  · rintro ⟨i, h⟩; have := i.isLt; omega
  · intro h; exact ⟨⟨(p 0).val - 16 * c, by omega⟩, by show (p 0).val = 16 * c + ((p 0).val - 16 * c); omega⟩

theorem readSets_disj (c : ℕ) : ∀ i ∈ (Finset.univ : Finset (Fin 16)), ∀ j ∈ (Finset.univ : Finset (Fin 16)), i ≠ j → Disjoint (readSet c i.val) (readSet c j.val) :=
  fun i _ j _ h => Finset.disjoint_left.mpr fun p hp hq => h (Fin.ext (by
    have h1 := (Finset.mem_filter.mp hp).2; have h2 := (Finset.mem_filter.mp hq).2; omega))
theorem readSets_cover (c : ℕ) : (Finset.univ : Finset (Fin 16)).biUnion (fun i => readSet c i.val) = shCore c := by
  ext p
  simp only [Finset.mem_biUnion, readSet, shCore, Finset.mem_filter, Finset.mem_univ, true_and]
  constructor
  · rintro ⟨i, h⟩; omega
  · intro h; exact ⟨⟨(p 0).val / 4 - 4 * c, by omega⟩, by show (p 0).val / 4 = 4 * c + ((p 0).val / 4 - 4 * c) ∧ (p 0).val / 4 - 4 * c < 4; omega⟩

omit [FloatOps F] in
/-- A SparseCore's words of the points are its tiles' words. -/
theorem x_tiles (d : Dev nD) (c : ℕ) (f : Buf (Elt F) (xLoc d)) :
    (xLoc d ↦[xCore c]{fullShare} f : sProp 𝕄) = bigSep Finset.univ fun i : Fin 16 => xLoc d ↦[xSet (16 * c + i.val)]{fullShare} f := by
  rw [← pointsTo_biUnion Finset.univ (ℓ := xLoc d) (fun i : Fin 16 => xSet (16 * c + i.val)) (xSets_disj c), xSets_cover]
omit [FloatOps F] in
/-- Its rows of the result are its tiles' rows. -/
theorem o_tiles (d : Dev nD) (c : ℕ) (f : Buf (Elt F) (oLoc d)) :
    (oLoc d ↦[oCore c]{fullShare} f : sProp 𝕄) = bigSep Finset.univ fun i : Fin 16 => oLoc d ↦[oSet c i.val]{fullShare} f := by
  rw [← pointsTo_biUnion Finset.univ (ℓ := oLoc d) (fun i : Fin 16 => oSet c i.val) (oSets_disj c), oSets_cover]
omit [FloatOps F] in
/-- The rows of the shared buffer it uses are the rows its tiles write, -/
theorem sh_tiles (d : Dev nD) (c : Fin τ.nSC) (f : Buf (Elt F) (shLoc d c)) :
    (shLoc d c ↦[shCore c.val]{fullShare} f : sProp 𝕄) = bigSep Finset.univ fun i : Fin 16 => shPart d c (shSet (16 * c.val + i.val)) f := by
  unfold shPart
  rw [← pointsTo_biUnion Finset.univ (ℓ := shLoc d c) (fun i : Fin 16 => shSet (16 * c.val + i.val)) (shSets_disj c.val), shSets_cover]
omit [FloatOps F] in
/-- and the rows they read. -/
theorem sh_reads (d : Dev nD) (c : Fin τ.nSC) (f : Buf (Elt F) (shLoc d c)) :
    (shLoc d c ↦[shCore c.val]{fullShare} f : sProp 𝕄) = bigSep Finset.univ fun i : Fin 16 => shPart d c (readSet c.val i.val) f := by
  unfold shPart
  rw [← pointsTo_biUnion Finset.univ (ℓ := shLoc d c) (fun i : Fin 16 => readSet c.val i.val) (readSets_disj c.val), readSets_cover]

omit [FloatOps F] in
/-- The shared buffer is among the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The sequencer splits what it is given, and its shared buffer, over its tiles, and joins what they give back. -/
theorem vecSplit : (K (F := F)).VecSplit (P m) 0 := by
  intro d c
  show iprop(((xLoc d ↦[xCore (coreOf c).val]{fullShare} (Xv m d : Buf (Elt F) (xLoc d))) ∗ oLoc d ↦[oCore (coreOf c).val]{fullShare} m (oLoc d)) ∗ ownBufs (S d (coreOf c)))
    ⊢ |={Set.univ}=> iprop(
      (bigSep Finset.univ fun i : Fin 16 => iprop((xLoc d ↦[xSet (16 * (coreOf c).val + i.val)]{fullShare} (Xv m d : Buf (Elt F) (xLoc d)))
        ∗ (oLoc d ↦[oSet (coreOf c).val i.val]{fullShare} m (oLoc d)) ∗ ∃ f, shPart d (coreOf c) (shSet (16 * (coreOf c).val + i.val)) f))
      ∗ ((bigSep Finset.univ fun i : Fin 16 => iprop(((xLoc d ↦[xSet (16 * (coreOf c).val + i.val)]{fullShare} (Xv m d : Buf (Elt F) (xLoc d)))
            ∗ (oLoc d ↦[oSet (coreOf c).val i.val]{fullShare} oV m d) ∗ shPart d (coreOf c) (readSet (coreOf c).val i.val) (shV m d (coreOf c)))
            ∗ semVal (bcell d (coreOf c) ((K (F := F)).sub 0 i)) 0))
          -∗ iprop((((xLoc d ↦[xCore (coreOf c).val]{fullShare} (Xv m d : Buf (Elt F) (xLoc d))) ∗ oLoc d ↦[oCore (coreOf c).val]{fullShare} oV m d)
              ∗ bigSep Finset.univ fun i : Fin 16 => semVal (bcell d (coreOf c) ((K (F := F)).sub 0 i)) 0) ∗ ownBufs (S d (coreOf c)))))
  rw [bigSep_sep', bigSep_sep', bigSep_sep', bigSep_sep', bigSep_sep', ← x_tiles, ← o_tiles, ← o_tiles, ← sh_reads, ownBufs_S]
  iintro ⟨⟨Hx, Ho⟩, ⟨%fsh, Hsh⟩, Hrest⟩; imodintro
  ihave Hsh := (pointsTo_split_subset (ℓ := shLoc d (coreOf c)) (q := fullShare) (f := fsh) (Finset.subset_univ (shCore (coreOf c).val))) $$ Hsh
  icases Hsh with ⟨Hsh, Hsr⟩
  isplitl [Hx Ho Hsh]
  · isplitl [Hx]; · iexact Hx
    isplitl [Ho]; · iexact Ho
    iapply ((Entails.of_eq (sh_tiles d (coreOf c) fsh)).trans (SparseCore.ent (bigSep_mono (Φ := fun i : Fin 16 => shPart (F := F) d (coreOf c) (shSet (16 * (coreOf c).val + i.val)) fsh)
      (Ψ := fun i : Fin 16 => iprop(∃ f, shPart (F := F) d (coreOf c) (shSet (16 * (coreOf c).val + i.val)) f))
      fun i _ => BI.BIClass.exists_intro (Φ := fun f => shPart (F := F) d (coreOf c) (shSet (16 * (coreOf c).val + i.val)) f) fsh)))
    iexact Hsh
  iintro ⟨⟨Hx, Ho, Hsh⟩, Hbars⟩
  isplitl [Hx Ho Hbars]
  · isplitr [Hbars]; swap; · iexact Hbars
    isplitl [Hx]; · iexact Hx
    iexact Ho
  isplitr [Hrest]; swap; · iexact Hrest
  iapply (SparseCore.ent (show iprop((shLoc d (coreOf c) ↦[shCore (coreOf c).val]{fullShare} shV m d (coreOf c))
      ∗ shLoc d (coreOf c) ↦[Finset.univ \ shCore (coreOf c).val]{fullShare} fsh) ⊢ (iprop(∃ f, shLoc d (coreOf c) ↦{fullShare} f) : sProp 𝕄) from by
    refine (pointsTo_join Finset.disjoint_sdiff).trans ?_
    rw [Finset.union_sdiff_of_subset (Finset.subset_univ _)]
    exact BI.BIClass.exists_intro (Φ := fun f => iprop(shLoc d (coreOf c) ↦{fullShare} f)) _))
  isplitl [Hsh]; · iexact Hsh
  iexact Hsr

end Cert.Proof.Hist
-- ==== Proof.Main.lean ====
/-
  The whole program: @main's two reshapes and its one call, what the final memory holds, and from
  that the program's run. The frames of both printed programs follow.
-/
module

public import proofs.«01_k».proof.Proof.Core
public import proofs.«01_k».proof.Proof.Gen.Kernel

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]
variable (m : (ℓ : Loc nD τ sig) → Buf (Elt F) ℓ) (ρ : Dev nD → PrngReg)

open Idealize.ShloMosaic.StableHlo (held)

/-! ## The arrays of @main -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The reshape of the points into one row of words. -/
abbrev opIn : HloOp τ sig (Elt F) := StableHlo.reshape main_arg0 main_v0 (rfl : (.f32 : EltTy) = .f32) shapeCasts_S8x8192x3_S196608
/-- The reshape of the counts into the result's shape. -/
abbrev opOut : HloOp τ sig (Elt F) := StableHlo.reshape main_v1 main_v2 (rfl : (.f32 : EltTy) = .f32) shapeCasts_S8x8x16_S8x1x4x8x4

/-- The four arrays: the points, their words, the counts, the result. -/
abbrev S4 : Finset (DevRef τ sig) := {a', x', o', r'}

omit [FloatOps F] in
theorem held_S4 (d : Dev nD) (W : Valuation τ sig (Elt F)) :
    (held (T d) S4 W : sProp 𝕄) = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1)
      ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays' contents: at the launch, after the first reshape, and after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (oV m d)

omit [FloatOps F] in
theorem unscoped_held (d : Dev nD) : (unscopedBufs d (fun b => m ((SparseCore.T d).loc b)) : sProp 𝕄) = held (T d) S4 (V0 m d) := by
  rw [unscopedBufs_eq, held_S4]; rfl

/-- The result: the counts in the result's shape. -/
def Rv (d : Dev nD) : Vec F S8x1x4x8x4 .f32 := shapeCast S8x1x4x8x4 (outVal (Xv m d)) shapeCasts_S8x8x16_S8x1x4x8x4

omit [FloatOps F] in
theorem V1_a (d : Dev nD) : V1 m d a' = m (aLoc d) := (opIn (F := F)).result_of_not_mem (V0 m d) (show a' ∉ ({x'} : Finset (DevRef τ sig)) by decide)
theorem V1_x (d : Dev nD) : V1 m d x' = Xv m d :=
  (StableHlo.reshape_result main_arg0 main_v0 (rfl : (.f32 : EltTy) = .f32) shapeCasts_S8x8192x3_S196608 (by exact ⟨by decide, rfl⟩) (by exact ⟨by decide, rfl⟩) (V0 m d)).trans rfl
omit [FloatOps F] in
theorem V1_o (d : Dev nD) : V1 m d o' = m (oLoc d) := (opIn (F := F)).result_of_not_mem (V0 m d) (show o' ∉ ({x'} : Finset (DevRef τ sig)) by decide)
theorem V2_a (d : Dev nD) : V2 m d a' = m (aLoc d) := (Function.update_of_ne (show a' ≠ o' by decide) _ _).trans (V1_a m d)
theorem V2_x (d : Dev nD) : V2 m d x' = Xv m d := (Function.update_of_ne (show x' ≠ o' by decide) _ _).trans (V1_x m d)
theorem V2_o (d : Dev nD) : V2 m d o' = oV m d := Function.update_self _ _ _
theorem V2_r (d : Dev nD) : V2 m d r' = V1 m d r' := Function.update_of_ne (show r' ≠ o' by decide) _ _
theorem V3_a (d : Dev nD) : (opOut (F := F)).result (V2 m d) a' = m (aLoc d) :=
  ((opOut (F := F)).result_of_not_mem (V2 m d) (show a' ∉ ({r'} : Finset (DevRef τ sig)) by decide)).trans (V2_a m d)
theorem V3_r (d : Dev nD) : (opOut (F := F)).result (V2 m d) r' = Rv m d :=
  (StableHlo.reshape_result main_v1 main_v2 (rfl : (.f32 : EltTy) = .f32) shapeCasts_S8x8x16_S8x1x4x8x4 (by exact ⟨by decide, rfl⟩) (by exact ⟨by decide, rfl⟩) (V2 m d)).trans
    (by rw [V2_o]; rfl)

/-- The arrays after the first reshape, and after the second. -/
theorem held_V1 (d : Dev nD) :
    (held (T d) S4 ((opIn (F := F)).result (V0 m d)) : sProp 𝕄)
      = iprop((aLoc d ↦{fullShare} m (aLoc d)) ∗ (xLoc d ↦{fullShare} (Xv m d : Buf (Elt F) (xLoc d))) ∗ (oLoc d ↦{fullShare} m (oLoc d)) ∗ rLoc d ↦{fullShare} V1 m d r') := by
  show held (SparseCore.T d) S4 (V1 m d) = _
  rw [held_S4, V1_a, V1_x, V1_o]
theorem held_V2 (d : Dev nD) :
    (held (T d) S4 (V2 m d) : sProp 𝕄)
      = iprop((aLoc d ↦{fullShare} m (aLoc d)) ∗ (xLoc d ↦{fullShare} (Xv m d : Buf (Elt F) (xLoc d))) ∗ (oLoc d ↦{fullShare} oV m d) ∗ rLoc d ↦{fullShare} V1 m d r') := by
  rw [held_S4, V2_a, V2_x, V2_o, V2_r]
theorem held_V3 (d : Dev nD) :
    (held (T d) S4 ((opOut (F := F)).result (V2 m d)) : sProp 𝕄)
      = iprop((aLoc d ↦{fullShare} m (aLoc d)) ∗ (xLoc d ↦{fullShare} (opOut (F := F)).result (V2 m d) x') ∗ (oLoc d ↦{fullShare} (opOut (F := F)).result (V2 m d) o')
          ∗ rLoc d ↦{fullShare} (Rv m d : Buf (Elt F) (rLoc d))) := by
  rw [held_S4, V3_a, V3_r]

/-! ## The arrays over the two SparseCores -/

theorem xCores_disj : ∀ i ∈ (Finset.univ : Finset (Fin 2)), ∀ j ∈ (Finset.univ : Finset (Fin 2)), i ≠ j → Disjoint (xCore i.val) (xCore j.val) :=
  fun i _ j _ h => Finset.disjoint_left.mpr fun p hp hq => h (Fin.ext (by
    have h1 := (Finset.mem_filter.mp hp).2; have h2 := (Finset.mem_filter.mp hq).2; omega))
theorem xCores_cover : (Finset.univ : Finset (Fin 2)).biUnion (fun i => xCore i.val) = (Finset.univ : Finset S196608.Idx) := by
  ext p
  have hp : (p 0).val < 196608 := (p 0).isLt
  simp only [Finset.mem_biUnion, xCore, Finset.mem_filter, Finset.mem_univ, true_and, iff_true]
  exact ⟨⟨(p 0).val / 98304, by omega⟩, rfl⟩
theorem oCores_disj : ∀ i ∈ (Finset.univ : Finset (Fin 2)), ∀ j ∈ (Finset.univ : Finset (Fin 2)), i ≠ j → Disjoint (oCore i.val) (oCore j.val) :=
  fun i _ j _ h => Finset.disjoint_left.mpr fun p hp hq => h (Fin.ext (by
    have h1 := (Finset.mem_filter.mp hp).2; have h2 := (Finset.mem_filter.mp hq).2; omega))
theorem oCores_cover : (Finset.univ : Finset (Fin 2)).biUnion (fun i => oCore i.val) = (Finset.univ : Finset S8x8x16.Idx) := by
  ext p
  have hp : (p 0).val < 8 := (p 0).isLt
  simp only [Finset.mem_biUnion, oCore, Finset.mem_filter, Finset.mem_univ, true_and, iff_true]
  exact ⟨⟨(p 0).val / 4, by omega⟩, rfl⟩

omit [FloatOps F] in
/-- The points' words are the two SparseCores' words, -/
theorem x_cores (d : Dev nD) (f : Buf (Elt F) (xLoc d)) :
    (xLoc d ↦{fullShare} f : sProp 𝕄) = bigSep Finset.univ fun c : Fin 2 => xLoc d ↦[xCore c.val]{fullShare} f := by
  rw [← pointsTo_biUnion Finset.univ (ℓ := xLoc d) (fun c : Fin 2 => xCore c.val) xCores_disj, xCores_cover]
omit [FloatOps F] in
/-- and the counts the two SparseCores' rows. -/
theorem o_cores (d : Dev nD) (f : Buf (Elt F) (oLoc d)) :
    (oLoc d ↦{fullShare} f : sProp 𝕄) = bigSep Finset.univ fun c : Fin 2 => oLoc d ↦[oCore c.val]{fullShare} f := by
  rw [← pointsTo_biUnion Finset.univ (ℓ := oLoc d) (fun c : Fin 2 => oCore c.val) oCores_disj, oCores_cover]

/-- The tiles' barrier semaphores at zero. -/
abbrev bars (d : Dev nD) : sProp 𝕄 :=
  bigSep Finset.univ fun c : Fin ((K (F := F)).nCore 0) => bigSep Finset.univ fun i : Fin ((K (F := F)).nSub 0) => semVal (bcell d (coreOf c) (subOf i)) 0

/-- What the call takes, and what it hands back. -/
theorem st0_eq (d : Dev nD) :
    (bigSep Finset.univ fun c : Fin ((K (F := F)).nCore 0) => (P m).st 0 d c)
      = iprop((xLoc d ↦{fullShare} (Xv m d : Buf (Elt F) (xLoc d))) ∗ oLoc d ↦{fullShare} m (oLoc d)) := by
  rw [x_cores, o_cores, ← bigSep_sep']
  rfl
theorem dn0_eq (d : Dev nD) :
    (bigSep Finset.univ fun c : Fin ((K (F := F)).nCore 0) => (P m).dn 0 d c)
      = iprop(((xLoc d ↦{fullShare} (Xv m d : Buf (Elt F) (xLoc d))) ∗ oLoc d ↦{fullShare} oV m d) ∗ bars d) := by
  rw [x_cores, o_cores, ← bigSep_sep', ← bigSep_sep']
  rfl

/-! ## @main -/

omit [FloatOps F] in
theorem hIn : (opIn (F := F)).bufs ⊆ S4 := show ({a', x'} : Finset (DevRef τ sig)) ⊆ S4 by decide
omit [FloatOps F] in
theorem hOut : (opOut (F := F)).bufs ⊆ S4 := show ({o', r'} : Finset (DevRef τ sig)) ⊆ S4 by decide

/-- What @main leaves: the points unchanged, the result, the barrier semaphores at zero. -/
abbrev FIN (d : Dev nD) : sProp 𝕄 :=
  iprop((aLoc d ↦{fullShare} m (aLoc d)) ∗ (rLoc d ↦{fullShare} (Rv m d : Buf (Elt F) (rLoc d))) ∗ bars d)

/-- @main on a device's TensorCore: the reshape in, the call, the reshape out. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (StableHlo.wp_hlo_within 𝒱 (SparseCore.T d) none Set.univ (op := opIn) (S := S4) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hx, Ho, Hr⟩
  iapply ((K (F := F)).wp_run (D (F := F)) 𝒱 (EH := EH) (P := P m) κ d 0) $$ [Hst Ha Hx Ho Hr Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨⟨Hx, Ho⟩, Hbars⟩
  iapply (StableHlo.wp_hlo_within 𝒱 (SparseCore.T d) none Set.univ (op := opOut) (S := S4) hOut (V := V2 m d)) $$ [Hb Ha Hx Ho Hr]
  · isplitl [Hb]; · iexact Hb
    rw [held_V2]
    isplitl [Ha]; · iexact Ha
    isplitl [Hx]; · iexact Hx
    isplitl [Ho]; · iexact Ho
    iexact Hr
  iintro ⟨Hb, Hheld⟩
  ihave Hh := (Entails.of_eq (held_V3 (F := F) m d)) $$ Hheld
  icases Hh with ⟨Ha, -, -, Hr⟩
  rw [wp_ret]; imodintro; imodintro
  isplitl [Hst]; · iexact Hst
  isplitr [Hb Hts]
  · isplitl [Ha]; · iexact Ha
    isplitl [Hr] <;> iassumption
  isplitl [Hb] <;> iassumption

/-- What is read of a device's final state. -/
def fq (d : Dev nD) (s' : Phys nD τ sig (Elt F)) : Prop :=
  s'.mem.mem (aLoc d) = m (aLoc d) ∧ s'.mem.mem (rLoc d) = (Rv m d : Buf (Elt F) (rLoc d))
    ∧ ∀ (c : Fin ((K (F := F)).nCore 0)) (i : Fin ((K (F := F)).nSub 0)), s'.mem.sem (bcell d (coreOf c) (subOf i)) = 0

omit [FloatOps F] in
theorem read_whole (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨((sep_mono_left sep_elim_left).trans (read_whole _ _ s')) x hx,
    ((sep_mono_left (sep_elim_right.trans sep_elim_left)).trans (read_whole _ _ s')) x hx, fun c i =>
    ((sep_mono_left ((sep_elim_right.trans sep_elim_right).trans ((SparseCore.ent (bigSep_elim (Finset.mem_univ c))).trans (SparseCore.ent (bigSep_elim (Finset.mem_univ i)))))).trans
      (SparseCore.Cfg.semVal_zero_read _ s')) x hx⟩

/-- The barrier semaphores taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2.2 ⟨c.val, c.isLt⟩ ⟨i.val, i.isLt⟩

/-! ## The program's run -/

/-- At the end the points are as they were, the result holds the counts, and every semaphore is at zero. -/
def QC : PUnit × MemSt nD τ sig (Elt F) → Prop := fun r =>
  (∀ d : Dev nD, r.2.mem (aLoc d) = m (aLoc d) ∧ r.2.mem (rLoc d) = (Rv m d : Buf (Elt F) (rLoc d))) ∧ r.2.sem = fun _ => 0

/-- The program's run, over any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m facts)
    (fun q _ => match q with | 0 => vecSplit m)
    m ρ main (fun _ => iprop(emp)) (FIN m) (u₀ (F := F)) (launch m) (hmain m ρ) (fq m) (hfin m) (QC m) (fun _ h hz => ⟨fun d => ⟨(h d).1, (h d).2.1⟩, hz⟩)

/-- The kernel over the machine's floats runs to the end and leaves the points as they were. -/
theorem frame_kernel : @Cert.quiescent_Kernel Cert.Kernel.Gen.facts := fun m ρ _ =>
  (θ_run Cert.KernelIdeal.defs _ _).mono (fun _ h => ⟨fun d => (h.1 d).1, h.2⟩) (run_main (F := Bits) m ρ)

/-- So does the kernel over the exact ones. -/
theorem frame_kernelIdeal : Cert.quiescent_KernelIdeal := fun m ρ _ =>
  (θ_run Cert.KernelIdeal.defs _ _).mono (fun _ h => ⟨fun d => (h.1 d).1, h.2⟩) (run_main (F := Ideal) m ρ)

end Cert.Proof.Hist
-- ==== Proof.Count.lean ====
/-
  The kernel's result over the exact floats: each lane's histogram holds, in each of its cells, the
  number of points that fell there; so the result holds, for a cloud and a bin, the number of the
  cloud's 8192 points that the kernel's comparisons put in the bin.
-/
module

public import proofs.«01_k».proof.Proof.Vals
public import Idealize.ShloMosaic.Lib.Pointwise

@[expose] public section

noncomputable section

namespace Cert.Proof.Hist

open Cert.KernelIdeal Cert.KernelIdeal.Gen
open Idealize.ShloMosaic
open scoped BigOperators

/-! ## One scatter -/

/-- Lane `k`'s index of a 16-lane vector. -/
abbrev lane (k : Fin 16) : S16.Idx := Shape.ofLane k

theorem lane_val (k : Fin 16) : (lane k 0).val = k.val := rfl

/-- Adding ones with every lane set puts, on each word, the number of lanes that name it. -/
theorem scatter_ones (h : Vec Ideal S2064 .f32) (b : IVec S16 32) (hb : ∀ a x, ((![b] : Fin 1 → IVec S16 32) a x).toNat < S2064.size a) (j : S2064.Idx) :
    storeIdx h ![b] (k0_pay31 (F := Ideal)) (fun _ => 1#1) true hb j
      = h j + ∑ k : Fin 16, if (b (lane k)).toNat = (j 0).val then (1 : EReal) else 0 := by
  have hone : ∀ x, k0_pay31 (F := Ideal) x = (1 : EReal) := fun x => Ideal.ofBits_one_f32
  have hl : ∀ (l : List (Fin 16)) (g : Vec Ideal S2064 .f32),
      (l.foldl (fun g k => fun j' : S2064.Idx => if (∀ a, (j' a).val = (idxAt ![b] hb (lane k) a).val) then Elt.idxAdd .f32 (g (idxAt ![b] hb (lane k))) (k0_pay31 (F := Ideal) (lane k)) else g j') g) j
        = (g j : EReal) + (l.map fun k => if (b (lane k)).toNat = (j 0).val then (1 : EReal) else 0).sum := by
    intro l
    induction l with
    | nil => intro g; exact (add_zero (g j : EReal)).symm
    | cons k l ih =>
      intro g
      rw [List.foldl_cons, ih, List.map_cons, List.sum_cons, ← add_assoc]
      congr 1
      by_cases hk : (b (lane k)).toNat = (j 0).val
      · have hj : j = idxAt ![b] hb (lane k) := by
          funext a
          fin_cases a
          exact Fin.ext hk.symm
        rw [if_pos hk, if_pos (fun a => by rw [← hj]), ← hj]
        show (g j : EReal) + k0_pay31 (F := Ideal) (lane k) = g j + 1
        rw [hone]
      · rw [if_neg hk, if_neg (fun h => hk (h 0).symm), add_zero]
  rw [← List.sum_ofFn, List.ofFn_eq_map]
  refine Eq.trans (congrFun ?_ j) (hl (List.finRange 16) h)
  unfold storeIdx
  congr 1
  funext g k
  refine (if_pos rfl).trans ?_
  funext j'
  by_cases hj : ∀ a, (j' a).val = (idxAt ![b] hb (lane k) a).val
  · exact (if_pos hj).trans (if_pos hj).symm
  · exact (if_neg hj).trans (if_neg hj).symm

/-! ## A lane's histogram -/

/-- Whether lane `l`'s point of step `t` is counted in cell `c`. -/
def hits (f : Vec Ideal S6144 .f32) (t : Fin k0_t2_loop.trips) (l : Fin 16) (c : Fin 128) : Prop :=
  okB (ldZ f t (lane l)) (FloatOps.mulf (ldZ f t (lane l)) (ldZ f t (lane l))) (sq (ldX f t (lane l)) (ldY f t (lane l)) (ldZ f t (lane l)))
    ∧ cellN (ldX f t (lane l)) (ldY f t (lane l)) (ldZ f t (lane l)) = c.val

instance (f : Vec Ideal S6144 .f32) (t : Fin k0_t2_loop.trips) (l : Fin 16) (c : Fin 128) : Decidable (hits f t l c) := by
  unfold hits; infer_instance

/-- A lane's word is its own cell `c` exactly where its point is counted there. -/
theorem lane_word {A : Prop} [Decidable A] {N c l : Nat} (hN : N < 128) (hc : c < 128) (hl : l < 16) :
    (if A then 128 * l + N else 2048 + l) = 128 * l + c ↔ A ∧ N = c := by
  split
  · rename_i h
    exact ⟨fun e => ⟨h, by omega⟩, fun e => by rw [e.2]⟩
  · rename_i h
    exact ⟨fun e => by omega, fun e => absurd e.1 h⟩

/-- Another lane's word is none of a lane's cells. -/
theorem lane_other {A : Prop} [Decidable A] {N c k l : Nat} (hN : N < 128) (hc : c < 128) (hl : l < 16) (hk : k < 16) (h : k ≠ l) :
    ¬ (if A then 128 * k + N else 2048 + k) = 128 * l + c := by
  split <;> omega

/-- One step adds one to lane `l`'s cell `c` where the lane's point falls there, and nothing elsewhere. -/
theorem cel_hstep (f : Vec Ideal S6144 .f32) (h : Vec Ideal S2064 .f32) (t : Fin k0_t2_loop.trips) (l : Fin 16) (c : Fin 128) :
    cel (hstep f h t) l c = (cel h l c : EReal) + if hits f t l c then (1 : EReal) else 0 := by
  have hc := c.isLt
  have hl := l.isLt
  have hb : ∀ k : Fin 16, (binOf (ldX f t) (ldY f t) (ldZ f t) (lane k)).toNat
      = if okB (ldZ f t (lane k)) (FloatOps.mulf (ldZ f t (lane k)) (ldZ f t (lane k))) (sq (ldX f t (lane k)) (ldY f t (lane k)) (ldZ f t (lane k)))
        then 128 * k.val + cellN (ldX f t (lane k)) (ldY f t (lane k)) (ldZ f t (lane k)) else 2048 + k.val := fun k => binOf_toNat _ _ _ _
  unfold cel hstep
  rw [scatter_ones]
  congr 1
  rw [Finset.sum_eq_single l]
  · refine if_congr ?_ rfl rfl
    rw [hb]
    exact lane_word (cellN_lt _ _ _) hc hl
  · intro k _ hk
    refine if_neg ?_
    rw [hb]
    exact lane_other (cellN_lt _ _ _) hc hl k.isLt fun h => hk (Fin.ext h)
  · exact fun h => absurd (Finset.mem_univ l) h

/-- After all the steps lane `l`'s cell `c` holds the number of its points that fall there. -/
theorem cel_histAt (f : Vec Ideal S6144 .f32) (l : Fin 16) (c : Fin 128) :
    cel (histAt f zeros k0_t2_loop.trips) l c = ∑ t : Fin k0_t2_loop.trips, if hits f t l c then (1 : EReal) else 0 := by
  have hn : ∀ n, n ≤ k0_t2_loop.trips → cel (histAt f zeros n) l c
      = ∑ t ∈ Finset.range n, if h : t < k0_t2_loop.trips then (if hits f ⟨t, h⟩ l c then (1 : EReal) else 0) else 0 := by
    intro n
    induction n with
    | zero => intro _; exact Ideal.ofBits_zero_f32
    | succ n ih =>
      intro h
      have hlt : n < k0_t2_loop.trips := h
      rw [Finset.sum_range_succ, dif_pos hlt, ← ih hlt.le, ← cel_hstep]
      exact congrArg (cel · l c) (histAt_succ f zeros ⟨n, hlt⟩)
  rw [hn _ le_rfl, Finset.sum_range]
  exact Finset.sum_congr rfl fun t _ => dif_pos t.isLt

/-- The lanes' sum, as a sum. -/
theorem redCell_eq (h : Vec Ideal S2064 .f32) (c : Fin 128) : redCell h c = ∑ l : Fin 16, (cel h l c : EReal) := by
  simp only [Fin.sum_univ_succ, Fin.sum_univ_zero, add_zero]
  unfold redCell
  simp only [Ideal.addf_def, add_assoc]
  rfl

/-- Tile `w`'s count of a cell. -/
theorem redOf_eq (X : Vec Ideal S196608 .f32) (w : Fin 32) (p : S8x16.Idx) :
    redOf X w p = ∑ l : Fin 16, ∑ t : Fin k0_t2_loop.trips, if hits (ptsOf X w) t l (cellOf p) then (1 : EReal) else 0 := by
  unfold redOf redV
  rw [redCell_eq]
  exact Finset.sum_congr rfl fun l _ => cel_histAt _ l _

/-! ## A cloud's points -/

/-- Point `n` of cloud `b`, its coordinate `k`. -/
abbrev pt (P : Vec Ideal S8x8192x3 .f32) (b : Fin 8) (n : Fin 8192) (k : Fin 3) : EReal := P (ix3 b n k)

/-- Whether the kernel counts a point in cell `c`. -/
def counts (x y z : Ideal .f32) (c : Nat) : Prop := okB z (FloatOps.mulf z z) (sq x y z) ∧ cellN x y z = c

instance (x y z : Ideal .f32) (c : Nat) : Decidable (counts x y z c) := by unfold counts; infer_instance

/-- The point that lane `l` of tile `i` of a cloud reads on step `t`. -/
def nth (i : Fin 4) (t : Fin k0_t2_loop.trips) (l : Fin 16) : Fin 8192 := ⟨2048 * i.val + 16 * t.val + l.val, by
  have ht : t.val < 128 := Nat.lt_of_lt_of_eq t.isLt trips2
  omega⟩

/-- The tiles, their steps and the lanes run through the cloud's points, each once. -/
theorem sum_nth (g : Fin 8192 → EReal) : ∑ i : Fin 4, ∑ l : Fin 16, ∑ t : Fin k0_t2_loop.trips, g (nth i t l) = ∑ n : Fin 8192, g n := by
  have hbij : Function.Bijective fun p : Fin 4 × Fin 16 × Fin k0_t2_loop.trips => nth p.1 p.2.2 p.2.1 := by
    constructor
    · rintro ⟨i, l, t⟩ ⟨i', l', t'⟩ h
      have ht : t.val < 128 := Nat.lt_of_lt_of_eq t.isLt trips2
      have ht' : t'.val < 128 := Nat.lt_of_lt_of_eq t'.isLt trips2
      have e : 2048 * i.val + 16 * t.val + l.val = 2048 * i'.val + 16 * t'.val + l'.val := congrArg Fin.val h
      have hl := l.isLt
      have hl' := l'.isLt
      refine Prod.ext (Fin.ext ?_) (Prod.ext (Fin.ext ?_) (Fin.ext ?_))
      · show i.val = i'.val
        omega
      · show l.val = l'.val
        omega
      · show t.val = t'.val
        omega
    · intro n
      refine ⟨⟨⟨n.val / 2048, by omega⟩, ⟨n.val % 16, by omega⟩, ⟨n.val % 2048 / 16, by rw [trips2]; omega⟩⟩, Fin.ext ?_⟩
      show 2048 * (n.val / 2048) + 16 * (n.val % 2048 / 16) + n.val % 16 = n.val
      omega
  rw [← hbij.sum_comp g, Fintype.sum_prod_type]
  exact Finset.sum_congr rfl fun i _ => (Fintype.sum_prod_type fun q : Fin 16 × Fin k0_t2_loop.trips => g (nth i q.2 q.1)).symm

/-- The flat array's word of a coordinate. -/
theorem flat_at (P : Vec Ideal S8x8192x3 .f32) (b : Fin 8) (n : Fin 8192) (k : Fin 3) (j : S196608.Idx)
    (hj : (j 0).val = 3 * (8192 * b.val + n.val) + k.val) : shapeCast S196608 P shapeCasts_S8x8192x3_S196608 j = pt P b n k := by
  have hn := n.isLt
  have hk := k.isLt
  unfold pt
  pointwise
  congr 1
  refine congr (congr (congrArg ix3 (Fin.ext ?_)) (Fin.ext ?_)) (Fin.ext ?_)
  · show (j 0).val / 24576 = b.val
    omega
  · show (j 0).val / 3 % 8192 = n.val
    omega
  · show (j 0).val % 3 = k.val
    omega

/-- Lane `l`'s first coordinate on step `t`, on tile `i` of cloud `b`. -/
theorem ldX_pt (P : Vec Ideal S8x8192x3 .f32) (b : Fin 8) (i : Fin 4) (w : Fin 32) (hw : w.val = 4 * b.val + i.val) (t : Fin k0_t2_loop.trips) (l : Fin 16) :
    ldX (ptsOf (shapeCast S196608 P shapeCasts_S8x8192x3_S196608) w) t (lane l) = pt P b (nth i t l) 0 := by
  refine flat_at P b (nth i t l) 0 _ ?_
  show 6144 * w.val + (ixX t (lane l)).toNat = 3 * (8192 * b.val + (2048 * i.val + 16 * t.val + l.val)) + 0
  rw [ixX_toNat, lane_val, hw]
  omega

/-- Its second. -/
theorem ldY_pt (P : Vec Ideal S8x8192x3 .f32) (b : Fin 8) (i : Fin 4) (w : Fin 32) (hw : w.val = 4 * b.val + i.val) (t : Fin k0_t2_loop.trips) (l : Fin 16) :
    ldY (ptsOf (shapeCast S196608 P shapeCasts_S8x8192x3_S196608) w) t (lane l) = pt P b (nth i t l) 1 := by
  refine flat_at P b (nth i t l) 1 _ ?_
  show 6144 * w.val + (k0_pay3 (ixX t) (lane l)).toNat = 3 * (8192 * b.val + (2048 * i.val + 16 * t.val + l.val)) + 1
  rw [ixY_toNat, lane_val, hw]
  omega

/-- Its third. -/
theorem ldZ_pt (P : Vec Ideal S8x8192x3 .f32) (b : Fin 8) (i : Fin 4) (w : Fin 32) (hw : w.val = 4 * b.val + i.val) (t : Fin k0_t2_loop.trips) (l : Fin 16) :
    ldZ (ptsOf (shapeCast S196608 P shapeCasts_S8x8192x3_S196608) w) t (lane l) = pt P b (nth i t l) 2 := by
  refine flat_at P b (nth i t l) 2 _ ?_
  show 6144 * w.val + (k0_pay4 (ixX t) (lane l)).toNat = 3 * (8192 * b.val + (2048 * i.val + 16 * t.val + l.val)) + 2
  rw [ixZ_toNat, lane_val, hw]
  omega

/-- A tile's count of a cell, over its cloud's points. -/
theorem redOf_pt (P : Vec Ideal S8x8192x3 .f32) (b : Fin 8) (i : Fin 4) (w : Fin 32) (hw : w.val = 4 * b.val + i.val) (p : S8x16.Idx) :
    redOf (shapeCast S196608 P shapeCasts_S8x8192x3_S196608) w p = ∑ l : Fin 16, ∑ t : Fin k0_t2_loop.trips,
      if counts (pt P b (nth i t l) 0) (pt P b (nth i t l) 1) (pt P b (nth i t l) 2) (cellOf p).val then (1 : EReal) else 0 := by
  rw [redOf_eq]
  refine Finset.sum_congr rfl fun l _ => Finset.sum_congr rfl fun t _ => if_congr ?_ rfl rfl
  unfold hits counts
  rw [ldX_pt P b i w hw, ldY_pt P b i w hw, ldZ_pt P b i w hw]

/-- A cloud's count of a cell, over its points. -/
theorem outRow_pt (P : Vec Ideal S8x8192x3 .f32) (b : Fin 8) (p : S8x16.Idx) :
    outRow (shapeCast S196608 P shapeCasts_S8x8192x3_S196608) b p
      = ∑ n : Fin 8192, if counts (pt P b n 0) (pt P b n 1) (pt P b n 2) (cellOf p).val then (1 : EReal) else 0 := by
  rw [← sum_nth, Fin.sum_univ_four]
  unfold outRow
  rw [redOf_pt P b 0 ⟨4 * b.val, by omega⟩ rfl, redOf_pt P b 1 ⟨4 * b.val + 1, by omega⟩ rfl, redOf_pt P b 2 ⟨4 * b.val + 2, by omega⟩ rfl,
    redOf_pt P b 3 ⟨4 * b.val + 3, by omega⟩ rfl]
  simp only [Ideal.addf_def, add_assoc]

/-- The kernel's result: the number of points of cloud `b` that the kernel counts in the bin. -/
theorem result_pt (P : Vec Ideal S8x8192x3 .f32) (j : S8x1x4x8x4.Idx) :
    shapeCast S8x1x4x8x4 (outVal (shapeCast S196608 P shapeCasts_S8x8192x3_S196608)) shapeCasts_S8x8x16_S8x1x4x8x4 j
      = ∑ n : Fin 8192, if counts (pt P (j 0) n 0) (pt P (j 0) n 1) (pt P (j 0) n 2) (32 * (j 2).val + 4 * (j 3).val + (j 4).val) then (1 : EReal) else 0 := by
  have h1 : (j 1).val < 1 := (j 1).isLt
  have h2 : (j 2).val < 4 := (j 2).isLt
  have h3 : (j 3).val < 8 := (j 3).isLt
  have h4 : (j 4).val < 4 := (j 4).isLt
  pointwise
  refine (outRow_pt P (j 0) _).trans (Finset.sum_congr rfl fun n _ => if_congr (Iff.of_eq (congrArg (counts _ _ _) ?_)) rfl rfl)
  show 16 * ((j 2).val * 2 + (j 3).val / 4) + ((j 3).val % 4 * 4 + (j 4).val) = 32 * (j 2).val + 4 * (j 3).val + (j 4).val
  omega

end Cert.Proof.Hist
-- ==== Proof.Bins.lean ====
/-
  The mathematics of the bins, over the reals. The reference finds a point's bin from its distance,
  its azimuth and its polar angle, each divided by the bin's width and rounded down, the three joined
  into one number; the kernel compares products of the coordinates. Here the two are shown to be the
  same bin, for every point at a distance below 100.
-/
module

public import Mathlib.Analysis.SpecialFunctions.Trigonometric.Arctan
public import Idealize.ShloMosaic.Lib.Pointwise

@[expose] public section

noncomputable section

namespace Cert.Proof.Bins

open Real

/-! ## The azimuth -/

/-- The angle of the point `(x, y)` in `(-π, π]`, zero at the origin. -/
def angle (x y : ℝ) : ℝ :=
  if 0 < x then arctan (y / x)
  else if x < 0 then (if 0 ≤ y then arctan (y / x) + π else arctan (y / x) - π)
  else if 0 < y then π / 2 else if y < 0 then -(π / 2) else 0

/-- The same angle in `[0, 2π)`. -/
def turn (x y : ℝ) : ℝ := if angle x y < 0 then angle x y + 2 * π else angle x y

/-- The eighth of the circle the point `(x, y)` lies in, by comparisons. -/
def oct (x y : ℝ) : ℕ :=
  if 0 < y ∧ 0 < x then (if x ≤ y then 1 else 0)
  else if 0 < y then (if 0 - x < y then 2 else 3)
  else if y < 0 ∧ x < 0 then (if x < y then 4 else 5)
  else if y < 0 then (if x < 0 - y then 6 else 7)
  else if x < 0 then 4 else 0

theorem quarter_le {t : ℝ} (h : 1 ≤ t) : π / 4 ≤ arctan t := by
  rw [← arctan_one]; exact arctan_strictMono.monotone h
theorem lt_quarter {t : ℝ} (h : t < 1) : arctan t < π / 4 := by
  rw [← arctan_one]; exact arctan_strictMono h
theorem neg_quarter_le {t : ℝ} (h : -1 ≤ t) : -(π / 4) ≤ arctan t := by
  rw [← arctan_one, ← arctan_neg]; exact arctan_strictMono.monotone h
theorem lt_neg_quarter {t : ℝ} (h : t < -1) : arctan t < -(π / 4) := by
  rw [← arctan_one, ← arctan_neg]; exact arctan_strictMono h
theorem arctan_nonneg' {t : ℝ} (h : 0 ≤ t) : 0 ≤ arctan t := by
  rw [← arctan_zero]; exact arctan_strictMono.monotone h
theorem arctan_neg' {t : ℝ} (h : t < 0) : arctan t < 0 := by
  rw [← arctan_zero]; exact arctan_strictMono h
theorem arctan_pos' {t : ℝ} (h : 0 < t) : 0 < arctan t := by
  rw [← arctan_zero]; exact arctan_strictMono h

theorem turn_of_neg {x y t : ℝ} (h : angle x y = t) (ht : t < 0) : turn x y = t + 2 * π := by
  unfold turn; rw [h, if_pos ht]
theorem turn_of_nonneg {x y t : ℝ} (h : angle x y = t) (ht : 0 ≤ t) : turn x y = t := by
  unfold turn; rw [h, if_neg (not_lt.mpr ht)]

/-- The angle lies in the eighth the comparisons name. -/
theorem turn_bounds (x y : ℝ) : (oct x y : ℝ) * (π / 4) ≤ turn x y ∧ turn x y < ((oct x y : ℝ) + 1) * (π / 4) := by
  have hπ := pi_pos
  have hlo := neg_pi_div_two_lt_arctan (y / x)
  have hhi := arctan_lt_pi_div_two (y / x)
  rcases lt_trichotomy x 0 with hx | hx | hx <;> rcases lt_trichotomy y 0 with hy | hy | hy
  · have h0 := arctan_pos' (div_pos_of_neg_of_neg hy hx)
    have ha : angle x y = arctan (y / x) - π := by simp [angle, hx, lt_asymm hx, hy]
    have ho : oct x y = if x < y then 4 else 5 := by simp [oct, hx, hy, lt_asymm hy]
    rw [turn_of_neg ha (by linarith), ho]
    split_ifs with h
    · have := lt_quarter (t := y / x) (by rw [div_lt_one_of_neg hx]; exact h)
      push_cast
      constructor <;> linarith
    · have := quarter_le (t := y / x) (by rw [one_le_div_of_neg hx]; exact not_lt.mp h)
      push_cast
      constructor <;> linarith
  · subst hy
    have ha : angle x 0 = π := by simp [angle, hx, hx.le]
    have ho : oct x 0 = 4 := by simp [oct, hx]
    rw [turn_of_nonneg ha hπ.le, ho]
    push_cast
    constructor <;> linarith
  · have h0 := arctan_neg' (div_neg_of_pos_of_neg hy hx)
    have ha : angle x y = arctan (y / x) + π := by simp [angle, hx, hx.le, hy.le]
    have ho : oct x y = if 0 - x < y then 2 else 3 := by simp [oct, hx.le, hy]
    rw [turn_of_nonneg ha (by linarith), ho]
    split_ifs with h
    · have := lt_neg_quarter (t := y / x) (by rw [div_lt_iff_of_neg hx]; linarith)
      push_cast
      constructor <;> linarith
    · have := neg_quarter_le (t := y / x) (by rw [le_div_iff_of_neg hx]; linarith)
      push_cast
      constructor <;> linarith
  · subst hx
    have ha : angle 0 y = -(π / 2) := by simp [angle, hy, hy.le]
    have ho : oct 0 y = 6 := by simp [oct, hy, hy.le]
    rw [turn_of_neg ha (by linarith), ho]
    push_cast
    constructor <;> linarith
  · subst hx; subst hy
    have ha : angle 0 0 = 0 := by simp [angle]
    have ho : oct 0 0 = 0 := by simp [oct]
    rw [turn_of_nonneg ha le_rfl, ho]
    push_cast
    constructor <;> linarith
  · subst hx
    have ha : angle 0 y = π / 2 := by simp [angle, hy]
    have ho : oct 0 y = 2 := by simp [oct, hy]
    rw [turn_of_nonneg ha (by linarith), ho]
    push_cast
    constructor <;> linarith
  · have h0 := arctan_neg' (div_neg_of_neg_of_pos hy hx)
    have ha : angle x y = arctan (y / x) := by simp [angle, hx]
    have ho : oct x y = if x < 0 - y then 6 else 7 := by simp [oct, lt_asymm hx, hy, lt_asymm hy]
    rw [turn_of_neg ha h0, ho]
    split_ifs with h
    · have := lt_neg_quarter (t := y / x) (by rw [div_lt_iff₀ hx]; linarith)
      push_cast
      constructor <;> linarith
    · have := neg_quarter_le (t := y / x) (by rw [le_div_iff₀ hx]; linarith)
      push_cast
      constructor <;> linarith
  · subst hy
    have ha : angle x 0 = 0 := by simp [angle, hx]
    have ho : oct x 0 = 0 := by simp [oct, hx.le]
    rw [turn_of_nonneg ha le_rfl, ho]
    push_cast
    constructor <;> linarith
  · have h0 := arctan_pos' (div_pos hy hx)
    have ha : angle x y = arctan (y / x) := by simp [angle, hx]
    have ho : oct x y = if x ≤ y then 1 else 0 := by simp [oct, hx, hy]
    rw [turn_of_nonneg ha h0.le, ho]
    split_ifs with h
    · have := quarter_le (t := y / x) (by rw [le_div_iff₀ hx]; linarith)
      push_cast
      constructor <;> linarith
    · have := lt_quarter (t := y / x) (by rw [div_lt_iff₀ hx]; linarith)
      push_cast
      constructor <;> linarith

theorem oct_le (x y : ℝ) : oct x y ≤ 7 := by
  unfold oct
  split_ifs <;> omega

/-! ## The polar angle -/

/-- The point lies straight down. -/
def down (z s : ℝ) : Prop := z < 0 ∧ s ≤ z * z

instance (z s : ℝ) : Decidable (down z s) := by unfold down; infer_instance

/-- The quarter of the half-turn the point's direction lies in, by comparisons. -/
def quart (z s : ℝ) : ℕ :=
  (if z ≤ 0 ∨ 2 * (z * z) ≤ s then 1 else 0) + (if z ≤ 0 then 1 else 0) + (if z < 0 ∧ s ≤ 2 * (z * z) then 1 else 0)

theorem quart_le (z s : ℝ) : quart z s ≤ 3 := by
  unfold quart
  split_ifs <;> omega

/-- An angle is at most an arccosine exactly where its cosine is at least the argument. -/
theorem le_arccos_iff {α q : ℝ} (h0 : 0 ≤ α) (h1 : α ≤ π) (hq0 : -1 ≤ q) (hq1 : q ≤ 1) : α ≤ arccos q ↔ q ≤ cos α := by
  have h := strictAntiOn_cos.le_iff_ge (a := arccos q) (b := α) ⟨arccos_nonneg q, arccos_le_pi q⟩ ⟨h0, h1⟩
  rw [cos_arccos hq0 hq1] at h
  exact h.symm

/-- The polar angle lies in the quarter that the comparisons name; straight down it is the fifth. -/
theorem pol_bounds {z r s : ℝ} (hr : 0 < r) (hs : r * r = s) (hz : z * z ≤ s) :
    ((quart z s + (if down z s then 1 else 0) : ℕ) : ℝ) * (π / 4) ≤ arccos (z / r)
      ∧ arccos (z / r) < (((quart z s + (if down z s then 1 else 0) : ℕ) : ℝ) + 1) * (π / 4) := by
  have hπ := pi_pos
  have hab : |z| ≤ r := abs_le_of_sq_le_sq (by nlinarith) hr.le
  obtain ⟨hz0, hz1⟩ := abs_le.mp hab
  have hq0 : -1 ≤ z / r := by rw [le_div_iff₀ hr]; linarith
  have hq1 : z / r ≤ 1 := by rw [div_le_iff₀ hr]; linarith
  have hw0 : 0 < √2 / 2 := by positivity
  have hw : √2 / 2 * (√2 / 2) = 1 / 2 := by
    have := mul_self_sqrt (show (0 : ℝ) ≤ 2 by norm_num)
    linarith
  have hwr : 0 < √2 / 2 * r := mul_pos hw0 hr
  have hwr2 : √2 / 2 * r * (√2 / 2 * r) = s / 2 := by
    rw [← hs]
    calc √2 / 2 * r * (√2 / 2 * r) = (√2 / 2 * (√2 / 2)) * (r * r) := by ring
      _ = r * r / 2 := by rw [hw]; ring
  have A : (z ≤ 0 ∨ 2 * (z * z) ≤ s) ↔ π / 4 ≤ arccos (z / r) := by
    rw [le_arccos_iff (by linarith) (by linarith) hq0 hq1, cos_pi_div_four, div_le_iff₀ hr]
    constructor
    · rintro (h | h)
      · linarith
      · rcases le_or_gt z 0 with h' | h'
        · linarith
        · exact (mul_self_le_mul_self_iff h'.le hwr.le).mpr (by linarith)
    · intro h
      rcases le_or_gt z 0 with h' | h'
      · exact Or.inl h'
      · exact Or.inr (by have := (mul_self_le_mul_self_iff h'.le hwr.le).mp h; linarith)
  have B : z ≤ 0 ↔ π / 2 ≤ arccos (z / r) := by
    rw [le_arccos_iff (by linarith) (by linarith) hq0 hq1, cos_pi_div_two, div_le_iff₀ hr, zero_mul]
  have C : (z < 0 ∧ s ≤ 2 * (z * z)) ↔ 3 * (π / 4) ≤ arccos (z / r) := by
    rw [le_arccos_iff (by linarith) (by linarith) hq0 hq1, show 3 * (π / 4) = π - π / 4 by ring, cos_pi_sub, cos_pi_div_four, div_le_iff₀ hr]
    constructor
    · rintro ⟨h, h'⟩
      have := (mul_self_le_mul_self_iff hwr.le (neg_pos.mpr h).le).mpr (by nlinarith)
      linarith
    · intro h
      have hn : z < 0 := by linarith
      have := (mul_self_le_mul_self_iff hwr.le (neg_pos.mpr hn).le).mp (by linarith)
      exact ⟨hn, by nlinarith⟩
  have E : down z s ↔ π ≤ arccos (z / r) := by
    unfold down
    rw [le_arccos_iff (by linarith) le_rfl hq0 hq1, cos_pi, div_le_iff₀ hr]
    constructor
    · rintro ⟨h, h'⟩
      have := (mul_self_le_mul_self_iff hr.le (neg_pos.mpr h).le).mpr (by nlinarith)
      linarith
    · intro h
      have hn : z < 0 := by linarith
      have := (mul_self_le_mul_self_iff hr.le (neg_pos.mpr hn).le).mp (by linarith)
      exact ⟨hn, by nlinarith⟩
  have h0 := arccos_nonneg (z / r)
  have h1 := arccos_le_pi (z / r)
  unfold quart
  simp only [A, C, E]
  simp only [B]
  split_ifs <;> push_cast <;> constructor <;> linarith

/-! ## The distance -/

/-- The whole part of the distance, below four, by comparisons of its square. -/
def ring (s : ℝ) : ℕ := (if 1 ≤ s then 1 else 0) + (if 4 ≤ s then 1 else 0) + (if 9 ≤ s then 1 else 0)

theorem ring_le (s : ℝ) : ring s ≤ 3 := by
  unfold ring
  split_ifs <;> omega

/-- A root's whole part is `n < 4` exactly where the square is below sixteen and the comparisons give `n`. -/
theorem floor_root {s : ℝ} (hs : 0 ≤ s) {n : ℕ} (hn : n ≤ 3) : ⌊√s⌋ = (n : ℤ) ↔ s < 16 ∧ ring s = n := by
  have h0 := sqrt_nonneg s
  have hk : ∀ k : ℝ, 0 ≤ k → (k ≤ √s ↔ k * k ≤ s) := fun k hk => by rw [le_sqrt hk, sq]; exact hs
  have h1 := hk 1 (by norm_num)
  have h2 := hk 2 (by norm_num)
  have h3 := hk 3 (by norm_num)
  have h4 := hk 4 (by norm_num)
  norm_num only at h1 h2 h3 h4
  rw [Int.floor_eq_iff]
  unfold ring
  have h4' : s < 16 ↔ √s < 4 := by rw [← not_le, ← h4, not_le]
  rw [h4']
  simp only [← h1, ← h2, ← h3]
  interval_cases n <;> push_cast <;> constructor
  all_goals first
    | (rintro ⟨ha, hb⟩
       refine ⟨by linarith, ?_⟩
       split_ifs <;> first | omega | (exfalso; linarith))
    | (rintro ⟨ha, hb⟩
       split_ifs at hb <;> first | omega | (constructor <;> linarith))

/-! ## The joined number -/

/-- A quotient's whole part from the bounds of the dividend. -/
theorem floor_of_bounds {t w : ℝ} {n : ℕ} (hw : 0 < w) (h : (n : ℝ) * w ≤ t ∧ t < ((n : ℝ) + 1) * w) : ⌊t / w⌋ = (n : ℤ) := by
  rw [Int.floor_eq_iff]
  push_cast
  exact ⟨by rw [le_div_iff₀ hw]; exact h.1, by rw [div_lt_iff₀ hw]; exact h.2⟩

/-- The polar angle's quarter, the reference's quotient kept from zero by `ε` and clipped to the cosine's range. -/
theorem floor_pol {z r s ε : ℝ} (hε : 0 < ε) (hr0 : 0 ≤ r) (hr : r = 0 ∨ ε ≤ r) (hs : r * r = s) (hz : z * z ≤ s) :
    ⌊arccos (min 1 (max (-1) (z / max r ε))) / (π / 4)⌋ = ((quart z s + (if down z s then 1 else 0) : ℕ) : ℤ) := by
  have hπ := pi_pos
  rcases hr with hr | hr
  · subst hr
    have hs0 : s = 0 := by rw [← hs]; ring
    subst hs0
    have hz0 : z = 0 := by nlinarith
    subst hz0
    apply floor_of_bounds (by linarith)
    rw [zero_div, max_eq_right (by norm_num), min_eq_right (by norm_num), arccos_zero]
    unfold quart down
    simp only [le_refl, true_or, if_true, lt_irrefl, false_and, if_false]
    push_cast
    constructor <;> linarith
  · have hr' : 0 < r := by linarith
    have hab : |z| ≤ r := abs_le_of_sq_le_sq (by nlinarith) hr'.le
    obtain ⟨hz0, hz1⟩ := abs_le.mp hab
    rw [max_eq_left hr, max_eq_right (by rw [le_div_iff₀ hr']; linarith), min_eq_right (by rw [div_le_iff₀ hr']; linarith)]
    exact floor_of_bounds (by linarith) (pol_bounds hr' hs hz)

/-- The reference's joined number of a point is the number of bin `(n, a, e)` exactly where the kernel counts the point
    and its comparisons name that bin. -/
theorem code_iff {x y z s r ε : ℝ} (hs : s = x * x + y * y + z * z) (hr : r = √s) (h100 : r < 100) (hε : 0 < ε) (h0 : r = 0 ∨ ε ≤ r)
    {n a e : ℕ} (hn : n ≤ 3) (ha : a ≤ 7) (he : e ≤ 3) :
    ((⌊r / 1⌋ : ℝ) * 1 + (⌊turn x y / (2 * π / 8)⌋ : ℝ) * 100 + (⌊arccos (min 1 (max (-1) (z / max r ε))) / (π / 4)⌋ : ℝ) * 10000
        = (n : ℝ) * 1 + (a : ℝ) * 100 + (e : ℝ) * 10000)
      ↔ (s < 16 ∧ ¬ down z s) ∧ ring s = n ∧ oct x y = a ∧ quart z s = e := by
  have hπ := pi_pos
  have hs0 : 0 ≤ s := by rw [hs]; nlinarith [mul_self_nonneg x, mul_self_nonneg y, mul_self_nonneg z]
  have hr0 : 0 ≤ r := by rw [hr]; exact sqrt_nonneg s
  have hrs : r * r = s := by rw [hr]; exact mul_self_sqrt hs0
  have hz : z * z ≤ s := by rw [hs]; nlinarith [mul_self_nonneg x, mul_self_nonneg y]
  have e1 : ⌊turn x y / (2 * π / 8)⌋ = (oct x y : ℤ) := by
    rw [show 2 * π / 8 = π / 4 by ring]
    exact floor_of_bounds (by linarith) (turn_bounds x y)
  have e2 := floor_pol hε hr0 h0 hrs hz
  have hf0 : 0 ≤ ⌊r⌋ := Int.floor_nonneg.mpr hr0
  have hf1 : ⌊r⌋ < 100 := Int.floor_lt.mpr (by exact_mod_cast h100)
  have hoct := oct_le x y
  have hq := quart_le z s
  have hdown : down z s → quart z s = 3 := by
    rintro ⟨h, h'⟩
    unfold quart
    rw [if_pos (Or.inl h.le), if_pos h.le, if_pos ⟨h, by nlinarith [mul_self_nonneg z]⟩]
  have hroot := floor_root hs0 hn
  rw [← hr] at hroot
  rw [div_one, e1, e2]
  have hcast : ((⌊r⌋ : ℝ) * 1 + (((oct x y : ℕ) : ℤ) : ℝ) * 100 + (((quart z s + (if down z s then 1 else 0) : ℕ) : ℤ) : ℝ) * 10000
        = (n : ℝ) * 1 + (a : ℝ) * 100 + (e : ℝ) * 10000)
      ↔ ⌊r⌋ * 1 + ((oct x y : ℕ) : ℤ) * 100 + ((quart z s + (if down z s then 1 else 0) : ℕ) : ℤ) * 10000 = (n : ℤ) * 1 + (a : ℤ) * 100 + (e : ℤ) * 10000 := by
    rw [← @Int.cast_inj ℝ]
    push_cast
    rfl
  rw [hcast]
  by_cases hd : down z s
  · rw [if_pos hd, hdown hd]
    constructor
    · intro h; exfalso; omega
    · intro h; exact absurd hd h.1.2
  · rw [if_neg hd]
    constructor
    · intro h
      have hf : ⌊r⌋ = (n : ℤ) := by omega
      obtain ⟨h16, hrg⟩ := hroot.mp hf
      exact ⟨⟨h16, hd⟩, hrg, by omega, by omega⟩
    · rintro ⟨⟨h16, -⟩, hrg, hoc, hqu⟩
      have hf := hroot.mpr ⟨h16, hrg⟩
      omega

end Cert.Proof.Bins
-- ==== Proof.Point.lean ====
/-
  One point over the exact floats. Where the precondition's two comparisons hold of its distance, its
  coordinates are real numbers; then the kernel's tests of it, and the reference's joined number, are
  the comparisons and the number of the mathematics of the bins (Proof/Bins.lean), and they agree.
-/
module

public import proofs.«01_k».proof.Proof.Count
public import proofs.«01_k».proof.Proof.Bins

@[expose] public section

noncomputable section

namespace Cert.Proof.Hist

open Idealize.ShloMosaic
open Cert.Proof.Bins

/-! ## The constants -/

theorem bits_two : Ideal.ofBits .f32 0x40000000#32 = ((2 : ℝ) : EReal) := by
  simp [Ideal.ofBits, Ideal.ieee, -EReal.coe_mul]; norm_num
theorem bits_four : Ideal.ofBits .f32 0x40800000#32 = ((4 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_nine : Ideal.ofBits .f32 0x41100000#32 = ((9 : ℝ) : EReal) := by
  simp [Ideal.ofBits, Ideal.ieee, -EReal.coe_mul]; norm_num
theorem bits_sixteen : Ideal.ofBits .f32 0x41800000#32 = ((16 : ℝ) : EReal) := by
  simp [Ideal.ofBits, Ideal.ieee, -EReal.coe_mul]; norm_num
theorem bits_hundred : Ideal.ofBits .f32 0x42C80000#32 = ((100 : ℝ) : EReal) := by
  simp [Ideal.ofBits, Ideal.ieee, -EReal.coe_mul]; norm_num
theorem bits_myriad : Ideal.ofBits .f32 0x461C4000#32 = ((10000 : ℝ) : EReal) := by
  simp [Ideal.ofBits, Ideal.ieee, -EReal.coe_mul]; norm_num
theorem bits_minus : Ideal.ofBits .f32 0xBF800000#32 = ((-1 : ℝ) : EReal) := by
  simp [Ideal.ofBits, Ideal.ieee, -EReal.coe_mul, -EReal.coe_neg]; norm_num
theorem bits_one : Ideal.ofBits .f32 0x3F800000#32 = ((1 : ℝ) : EReal) := Ideal.ofBits_one_f32
theorem bits_zero : Ideal.ofBits .f32 0x00000000#32 = ((0 : ℝ) : EReal) := Ideal.ofBits_zero_f32

/-- The least distance, other than zero, that the claim allows: the float nearest a millionth of a millionth. -/
theorem bits_least : ∃ ε : ℝ, 0 < ε ∧ Ideal.ofBits .f32 0x2B8CBCCC#32 = (ε : EReal) := by
  refine ⟨9223372 * (2 : ℝ) ^ (-63 : ℤ), by positivity, ?_⟩
  simp [Ideal.ofBits, Ideal.ieee, -EReal.coe_mul]

/-! ## Comparisons -/

theorem bit_decide (p : Prop) [Decidable p] : BitVec.ofBool (decide p) = 1#1 ↔ p := by
  by_cases h : p <;> simp [h]

theorem lt_iff (x y : EReal) : FloatOps.cmpf (F := Ideal) (φ := .f32) .olt x y = 1 ↔ x < y := bit_decide _
theorem le_iff (x y : EReal) : FloatOps.cmpf (F := Ideal) (φ := .f32) .ole x y = 1 ↔ x ≤ y := bit_decide _
theorem gt_iff (x y : EReal) : FloatOps.cmpf (F := Ideal) (φ := .f32) .ogt x y = 1 ↔ y < x := bit_decide _
theorem ge_iff (x y : EReal) : FloatOps.cmpf (F := Ideal) (φ := .f32) .oge x y = 1 ↔ y ≤ x := bit_decide _

/-! ## The kernel's tests at a real point -/

section
variable (x y z : ℝ)

/-- The squared distance. -/
def s2 : ℝ := x * x + y * y + z * z

theorem sq_real : sq (F := Ideal) (x : EReal) (y : EReal) (z : EReal) = ((s2 x y z : ℝ) : EReal) := by
  show ((x : EReal) * x + y * y) + z * z = _
  rw [← EReal.coe_mul, ← EReal.coe_mul, ← EReal.coe_mul, ← EReal.coe_add, ← EReal.coe_add]
  rfl

theorem radN_real (s : ℝ) : radN (F := Ideal) (s : EReal) = ring s := by
  unfold radN ring one
  simp only [ge_iff, Ideal.ofBits_def, bits_one, bits_four, bits_nine, EReal.coe_le_coe_iff]

theorem aziN_real : aziN (F := Ideal) (x : EReal) (y : EReal) = oct x y := by
  unfold aziN oct z0
  simp only [ge_iff, gt_iff, lt_iff, Ideal.ofBits_def, Ideal.subf_def, bits_zero, ← EReal.coe_sub, EReal.coe_le_coe_iff, EReal.coe_lt_coe_iff]

theorem t2_real : t2 (F := Ideal) ((z : EReal) * z) = ((2 * (z * z) : ℝ) : EReal) := by
  show Ideal.ofBits .f32 0x40000000#32 * ((z : EReal) * z) = _
  rw [bits_two, ← EReal.coe_mul, ← EReal.coe_mul]

theorem eleN_real (s : ℝ) : eleN (F := Ideal) (z : EReal) ((z : EReal) * z) (s : EReal) = quart z s := by
  unfold eleN quart
  simp only [t2_real, ge_iff, le_iff, lt_iff, Ideal.ofBits_def, bits_zero, EReal.coe_le_coe_iff, EReal.coe_lt_coe_iff]

theorem okB_real (s : ℝ) : okB (F := Ideal) (z : EReal) ((z : EReal) * z) (s : EReal) ↔ s < 16 ∧ ¬ down z s := by
  unfold okB down
  rw [← EReal.coe_mul]
  simp only [ge_iff, lt_iff, Ideal.ofBits_def, bits_zero, bits_sixteen, EReal.coe_le_coe_iff, EReal.coe_lt_coe_iff]

/-- The kernel counts a real point in the bin that the comparisons name. -/
theorem counts_real {n a e : ℕ} (ha : a ≤ 7) (he : e ≤ 3) :
    counts (x : EReal) (y : EReal) (z : EReal) (32 * n + 4 * a + e)
      ↔ (s2 x y z < 16 ∧ ¬ down z (s2 x y z)) ∧ ring (s2 x y z) = n ∧ oct x y = a ∧ quart z (s2 x y z) = e := by
  unfold counts cellN
  rw [sq_real, Ideal.mulf_def, okB_real, radN_real, aziN_real, eleN_real]
  have h1 := oct_le x y
  have h2 := quart_le z (s2 x y z)
  refine and_congr_right fun _ => ?_
  constructor
  · intro h
    exact ⟨by omega, by omega, by omega⟩
  · rintro ⟨rfl, rfl, rfl⟩
    rfl
end

/-! ## The precondition -/

/-- A product with itself is not negative, and infinite where its factor is. -/
theorem sq_cases (x : EReal) : (∃ r : ℝ, x = r) ∨ x * x = ⊤ := by
  induction x with
  | bot => exact Or.inr rfl
  | top => exact Or.inr rfl
  | coe r => exact Or.inl ⟨r, rfl⟩

theorem sq_ne_bot (x : EReal) : x * x ≠ ⊥ := by
  induction x with
  | bot => exact fun h => by cases h
  | top => exact fun h => by cases h
  | coe r => rw [← EReal.coe_mul]; exact EReal.coe_ne_bot _

/-- The distance of a point, in the host's order of operations. -/
def dist (x y z : EReal) : EReal := Ideal.sqrt (x * x + y * y + z * z)

/-- A point at a distance below 100 has real coordinates. -/
theorem real_of_dist {x y z : EReal} (h : dist x y z < ((100 : ℝ) : EReal)) : ∃ a b c : ℝ, x = a ∧ y = b ∧ z = c := by
  have key : x * x + y * y + z * z ≠ ⊤ := by
    intro e
    unfold dist at h
    rw [e, Ideal.sqrt_top] at h
    exact absurd h (not_lt.mpr le_top)
  have hxy : x * x + y * y ≠ ⊤ := fun e => key (by rw [e, EReal.top_add_of_ne_bot (sq_ne_bot z)])
  have hxyb : x * x + y * y ≠ ⊥ := fun e => by
    rcases EReal.add_eq_bot_iff.mp e with e | e
    · exact sq_ne_bot x e
    · exact sq_ne_bot y e
  rcases sq_cases x with ⟨a, ha⟩ | hx
  · rcases sq_cases y with ⟨b, hb⟩ | hy
    · rcases sq_cases z with ⟨c, hc⟩ | hz
      · exact ⟨a, b, c, ha, hb, hc⟩
      · exact absurd (by rw [hz, EReal.add_top_of_ne_bot hxyb]) key
    · exact absurd (by rw [hy, EReal.add_top_of_ne_bot (sq_ne_bot x)]) hxy
  · exact absurd (by rw [hx, EReal.top_add_of_ne_bot (sq_ne_bot y)]) hxy

/-! ## The reference's joined number at a point -/

/-- The reference's joined number of a point, over the exact floats. -/
def code (x y z : EReal) : EReal :=
  Ideal.liftRound Int.floor (Ideal.div (dist x y z) (Ideal.ofBits .f32 0x3F800000#32)) * Ideal.ofBits .f32 0x3F800000#32
    + Ideal.liftRound Int.floor (Ideal.div
        (if Ideal.atan2 y x < Ideal.ofBits .f32 0x00000000#32 then Ideal.atan2 y x + Ideal.ofBits .f32 0x40000000#32 * Ideal.acos (Ideal.ofBits .f32 0xBF800000#32)
          else Ideal.atan2 y x)
        (Ideal.div (Ideal.ofBits .f32 0x40000000#32 * Ideal.acos (Ideal.ofBits .f32 0xBF800000#32)) (Ideal.ofBits .f32 0x41000000#32)))
      * Ideal.ofBits .f32 0x42C80000#32
    + Ideal.liftRound Int.floor (Ideal.div
        (Ideal.acos (min (Ideal.ofBits .f32 0x3F800000#32) (max (Ideal.ofBits .f32 0xBF800000#32)
          (Ideal.div z (max (dist x y z) (Ideal.ofBits .f32 0x2B8CBCCC#32))))))
        (Ideal.div (Ideal.acos (Ideal.ofBits .f32 0xBF800000#32)) (Ideal.ofBits .f32 0x40800000#32)))
      * Ideal.ofBits .f32 0x461C4000#32

/-- The number pi, as the reference spells it. -/
theorem acos_minus : Ideal.acos (Ideal.ofBits .f32 0xBF800000#32) = ((Real.pi : ℝ) : EReal) := by
  rw [bits_minus, Ideal.acos_coe, if_pos ⟨le_rfl, by norm_num⟩, Real.arccos_neg_one]

theorem div_real {a b : ℝ} (hb : b ≠ 0) : Ideal.div (a : EReal) (b : EReal) = ((a / b : ℝ) : EReal) := by
  rw [Ideal.div_coe hb, ← EReal.coe_mul, mul_one_div]

theorem dist_real (x y z : ℝ) : dist (x : EReal) (y : EReal) (z : EReal) = ((√(s2 x y z) : ℝ) : EReal) := by
  unfold dist
  rw [← EReal.coe_mul, ← EReal.coe_mul, ← EReal.coe_mul, ← EReal.coe_add, ← EReal.coe_add, Ideal.sqrt_coe, if_neg]
  · rfl
  · exact not_lt.mpr (by nlinarith [mul_self_nonneg x, mul_self_nonneg y, mul_self_nonneg z])

theorem turn_real (x y : ℝ) :
    (if Ideal.atan2 (y : EReal) (x : EReal) < ((0 : ℝ) : EReal) then Ideal.atan2 (y : EReal) (x : EReal) + ((2 * Real.pi : ℝ) : EReal) else Ideal.atan2 (y : EReal) (x : EReal))
      = ((turn x y : ℝ) : EReal) := by
  have h : Ideal.atan2 (y : EReal) (x : EReal) = ((angle x y : ℝ) : EReal) := rfl
  rw [h, ← EReal.coe_add]
  unfold turn
  by_cases ht : angle x y < 0
  · rw [if_pos ht, if_pos (EReal.coe_lt_coe_iff.mpr ht)]
  · rw [if_neg ht, if_neg (fun e => ht (EReal.coe_lt_coe_iff.mp e))]

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

/-- At a real point the joined number is the real one. -/
theorem code_real (x y z ε : ℝ) (hε : 0 < ε) (he : Ideal.ofBits .f32 0x2B8CBCCC#32 = (ε : EReal)) :
    code (x : EReal) (y : EReal) (z : EReal)
      = (((⌊√(s2 x y z) / 1⌋ : ℝ) * 1 + (⌊turn x y / (2 * Real.pi / 8)⌋ : ℝ) * 100
          + (⌊Real.arccos (min 1 (max (-1) (z / max (√(s2 x y z)) ε))) / (Real.pi / 4)⌋ : ℝ) * 10000 : ℝ) : EReal) := by
  have hπ := Real.pi_pos
  have hm : max (√(s2 x y z)) ε ≠ 0 := (lt_of_lt_of_le hε (le_max_right _ _)).ne'
  unfold code
  rw [acos_minus, he, bits_one, bits_two, bits_four, bits_eight, bits_zero, bits_hundred, bits_myriad, bits_minus, dist_real, coe_max, div_real hm, coe_max,
    coe_min, ← EReal.coe_mul, turn_real, Ideal.acos_coe, if_pos ⟨le_min (by norm_num) (le_max_left _ _), min_le_left _ _⟩, div_real (by norm_num),
    div_real (by norm_num), div_real (by positivity), div_real (by norm_num), div_real (by positivity)]
  simp only [Ideal.liftRound_coe, ← EReal.coe_mul, ← EReal.coe_add]

/-- A point the precondition allows has the joined number of bin `(n, a, e)` exactly where the kernel counts it there. -/
theorem code_counts {x y z : EReal} (h100 : dist x y z < Ideal.ofBits .f32 0x42C80000#32)
    (h0 : dist x y z = Ideal.ofBits .f32 0x00000000#32 ∨ Ideal.ofBits .f32 0x2B8CBCCC#32 ≤ dist x y z) {n a e : ℕ} (hn : n ≤ 3) (ha : a ≤ 7) (he : e ≤ 3) :
    code x y z = (((n : ℝ) * 1 + (a : ℝ) * 100 + (e : ℝ) * 10000 : ℝ) : EReal) ↔ counts x y z (32 * n + 4 * a + e) := by
  obtain ⟨ε, hε, hε'⟩ := bits_least
  rw [bits_hundred] at h100
  obtain ⟨x, y, z, rfl, rfl, rfl⟩ := real_of_dist h100
  rw [dist_real] at h100 h0
  rw [bits_zero, hε'] at h0
  rw [code_real x y z ε hε hε', EReal.coe_eq_coe_iff, counts_real x y z ha he]
  exact code_iff rfl rfl (EReal.coe_lt_coe_iff.mp h100) hε (h0.imp EReal.coe_eq_coe_iff.mp EReal.coe_le_coe_iff.mp) hn ha he

end Cert.Proof.Hist
-- ==== Proof.Ref.lean ====
/-
  The reference's result over the exact floats, read at an index: the number of a cloud's points whose
  joined number is the bin's.
-/
module

public import proofs.«01_k».proof.Proof.Point
public import proofs.«01_k».proof.Proof.Gen.ReferenceIdeal
public import proofs.«01_k».proof.Proof.Gen.ReferenceIdeal.Run
public import proofs.«01_k».proof.Pre_in_range
public import Idealize.ShloMosaic.Lib.ReduceAll

@[expose] public section

noncomputable section

namespace Cert.Proof.Hist

open Idealize.ShloMosaic Idealize.SL.Sem
open Cert.ReferenceIdeal

/-- A comparison's bit as a number. -/
theorem bit_number (p : Prop) [Decidable p] : (FloatOps.uitofp .f32 (BitVec.ofBool (decide p)) : Ideal .f32) = if p then (1 : EReal) else 0 := by
  show (((BitVec.ofBool (decide p)).toNat : ℝ) : EReal) = _
  by_cases h : p <;> simp [h]

/-- A small index as a number. -/
theorem index_number {k : ℕ} (h : k < 8) : (FloatOps.sitofp .f32 (BitVec.ofNat 32 k) : Ideal .f32) = ((k : ℝ) : EReal) := by
  show (((BitVec.ofNat 32 k).toInt : ℝ) : EReal) = _
  have e : (BitVec.ofNat 32 k).toInt = (k : ℤ) := by interval_cases k <;> rfl
  rw [e, Int.cast_natCast]

/-- The reference's result: the number of points of cloud `b` whose joined number is the bin's. -/
theorem ref_pt (m : (ℓ : Loc nD τ sig) → Buf (Elt Ideal) ℓ) (c : Dev nD) (P : Vec Ideal S8x8192x3 .f32)
    (hP : m ((c.tc : Thread nD τ).loc main_arg0) = P) (j : S8x1x4x8x4.Idx) :
    @Eq EReal (Cert.ReferenceIdeal.Value.res_main_v70 (F := Ideal) m c j)
      (∑ n : Fin 8192, if code (pt P (j 0) n 0) (pt P (j 0) n 1) (pt P (j 0) n 2)
          = ((((j 2).val : ℝ) * 1 + ((j 3).val : ℝ) * 100 + ((j 4).val : ℝ) * 10000 : ℝ) : EReal) then (1 : EReal) else 0) := by
  have h2 : (j 2).val < 4 := (j 2).isLt
  have h3 : (j 3).val < 8 := (j 3).isLt
  have h4 : (j 4).val < 4 := (j 4).isLt
  unfold Cert.ReferenceIdeal.Value.res_main_v70
  rw [hP]
  pointwise [id]
  refine Finset.sum_congr rfl fun n _ => ?_
  rw [bit_number, index_number (by omega), index_number (by omega), index_number (by omega), bits_hundred, bits_myriad]
  refine if_congr ?_ rfl rfl
  unfold code dist pt
  rw [bits_hundred, bits_myriad]
  simp only [Ideal.ofBits_one_f32, Ideal.ofBits_zero_f32, mul_one, EReal.coe_add, EReal.coe_mul]

/-! ## The precondition -/

/-- The side conditions that the precondition's printed form takes. -/
instance rangeFacts : Cert.Pre_in_range.Facts where
  slices_S8x8192x3_S8x8192x1_0_0_0 := by decide
  shapeCasts_S8x8192x1_S8x8192 := by decide
  slices_S8x8192x3_S8x8192x1_0_0_1 := by decide
  slices_S8x8192x3_S8x8192x1_0_0_2 := by decide
  bcast_S_S8x8192 := by decide
  reducesTo_S8x8192_S_d0_1 := by decide
  h_S_ := by decide

/-- The precondition's two comparisons, at each point. -/
theorem range_at (P : Vec Ideal S8x8192x3 .f32) (h : Cert.Pre_in_range.fn (F := Ideal) P = fun _ => 1#1) (b : Fin 8) (n : Fin 8192) :
    dist (pt P b n 0) (pt P b n 1) (pt P b n 2) < Ideal.ofBits .f32 0x42C80000#32
      ∧ (dist (pt P b n 0) (pt P b n 1) (pt P b n 2) = Ideal.ofBits .f32 0x00000000#32
        ∨ Ideal.ofBits .f32 0x2B8CBCCC#32 ≤ dist (pt P b n 0) (pt P b n 1) (pt P b n 2)) := by
  have e := congrFun h (fun a => a.elim0)
  unfold Cert.Pre_in_range.fn Cert.Pre_in_range.fn_part1 at e
  have : Subsingleton Cert.Pre_in_range.S_.Idx := ⟨fun a b => funext fun k => k.elim0⟩
  have e' := Host.reduce_andi_all _ _ _ _ _ e (ix2 b n)
  pointwise at e'
  obtain ⟨h1, h2⟩ := (and1 _ _).mp e'
  refine ⟨(bit_decide _).mp h1, ((or1 _ _).mp h2).imp (fun h => ?_) fun h => (bit_decide _).mp h⟩
  rw [Ideal.ofBits_zero_f32]
  exact (bit_decide _).mp h

end Cert.Proof.Hist
-- ==== Proof.lean ====
/-
  The certificate: the frames from the kernel's run (Proof/Main.lean) and the reference's, and the equality of
  their results from the two readings at an index (Proof/Count.lean, Proof/Ref.lean).
-/
module

public import proofs.«01_k».proof.Defs
public import proofs.«01_k».proof.Proof.Main
public import proofs.«01_k».proof.Proof.Ref

@[expose] public section

noncomputable section

namespace Cert.Proof

open Idealize.ShloMosaic Idealize.SL.Sem Cert.Proof.Hist

/-- The exact kernel's frame where the points lie in range: its frame, which asks nothing of them. -/
theorem frame_kernelIdeal_range : @Cert.quiescent_KernelIdeal_pre_in_range Cert.KernelIdeal.Gen.facts rangeFacts :=
  fun m ρ _ => frame_kernelIdeal m ρ trivial

/-- The reference runs to the end, leaves the points as they were, and has no semaphore. -/
theorem frame_referenceIdeal : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame where the points lie in range: its frame, which asks nothing of them. -/
theorem frame_referenceIdeal_range : @Cert.quiescent_ReferenceIdeal_pre_in_range Cert.ReferenceIdeal.Gen.facts rangeFacts :=
  fun m ρ _ => frame_referenceIdeal m ρ trivial

/-- Of points in range, the reference's result is the kernel's: at each bin both number the points that lie in it. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hr : Cert.Pre_in_range.fn (F := Ideal) (m (aLoc c)) = fun _ => 1#1)
    (ha : m' ((c.tc : Thread Cert.ReferenceIdeal.nD Cert.ReferenceIdeal.τ).loc Cert.ReferenceIdeal.main_arg0) = m (aLoc c)) :
    Cert.ReferenceIdeal.Value.res_main_v70 (F := Ideal) m' c = Rv m c := by
  funext j
  refine (ref_pt m' c (m (aLoc c)) ha j).trans (Eq.trans ?_ (result_pt (m (aLoc c)) j).symm)
  have h2 : (j 2).val < 4 := (j 2).isLt
  have h3 : (j 3).val < 8 := (j 3).isLt
  have h4 : (j 4).val < 4 := (j 4).isLt
  refine Finset.sum_congr rfl fun n _ => if_congr ?_ rfl rfl
  obtain ⟨h100, h0⟩ := range_at (m (aLoc c)) hr (j 0) n
  exact code_counts h100 h0 (by omega) (by omega) (by omega)

/-- Of points in range, the exact kernel and the reference end with the same counts. -/
theorem values : @Cert.algebraic_KernelIdeal_ReferenceIdeal_pre_in_range Cert.KernelIdeal.Gen.facts Cert.ReferenceIdeal.Gen.facts rangeFacts :=
  fun m ρ m' ρ' hr ha => ⟨Rv m,
    (θ_run Cert.KernelIdeal.defs _ _).mono (fun _ h d => ⟨(h.1 d).2, (h.1 d).1⟩) (run_main (F := Ideal) m ρ),
    (θ_run Cert.ReferenceIdeal.defs _ _).mono (fun _ h c => ⟨(h c).1.trans (values_eq m m' c (hr c) (ha c)), (h c).2⟩)
      (Cert.ReferenceIdeal.Value.run (F := Ideal) m' ρ')⟩

theorem claim : Cert.Claim := ⟨Cert.Kernel.Gen.facts, Cert.KernelIdeal.Gen.facts, Cert.ReferenceIdeal.Gen.facts, rangeFacts,
  frame_kernel, frame_kernelIdeal, frame_kernelIdeal_range, frame_referenceIdeal, frame_referenceIdeal_range, trivial, values⟩

end Cert.Proof

end
